-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S4096x8192 : Shape := ⟨2, ![4096, 8192]⟩
abbrev S64x8192 : Shape := ⟨2, ![64, 8192]⟩
abbrev S2x64x8192 : Shape := ⟨3, ![2, 64, 8192]⟩
abbrev S2 : Shape := ⟨1, ![2]⟩
abbrev S_ : Shape := ⟨0, ![]⟩
abbrev S1 : Shape := ⟨1, ![1]⟩
abbrev S1x64x8192 : Shape := ⟨3, ![1, 64, 8192]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S4096x8192, .f32⟩
  | .hbm, ⟨3, _⟩ => ⟨S4096x8192, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S2x64x8192, .f32⟩
  | .local _ .vmem, ⟨5, _⟩ => ⟨S2x64x8192, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 5 12 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v30 : BitVec 32 := Scalar.muli v2 c128_i32
  let c0_i32_20 : BitVec 32 := 0#32
  ![v30.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_19 : BitVec 32 := 128#32
  let v31 : BitVec 32 := Scalar.muli v2 c128_i32_19
  let c64_i32 : BitVec 32 := 64#32
  let v32 : BitVec 32 := Scalar.addi v31 c64_i32
  let c0_i32_21 : BitVec 32 := 0#32
  ![v32.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v37 : BitVec 32 := Scalar.muli v13 c1_i32_27
  let v38 : BitVec 32 := Scalar.addi c0_i32_28 v37
  v38.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v45 : BitVec 32 := Scalar.muli v24 c1_i32_34
  let v46 : BitVec 32 := Scalar.addi c0_i32_35 v45
  v46.toNat
def k0_off3 (d0 : Dev nD) (c0_i32_38 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v53 : BitVec 32 := Scalar.subi v2 c0_i32_38
  let c1_i32_39 : BitVec 32 := 1#32
  let v54 : BitVec 32 := Scalar.subi v53 c1_i32_39
  let c32_i32_40 : BitVec 32 := 32#32
  let c0_i32_41 : BitVec 32 := 0#32
  let v55 : BitVec 1 := Scalar.cmpi .eq c32_i32_40 c0_i32_41
  let c1_i32_42 : BitVec 32 := 1#32
  let v56 : BitVec 32 := Scalar.select v55 c1_i32_42 c32_i32_40
  let v57 : BitVec 32 := Scalar.remsi v54 v56
  let c0_i32_44 : BitVec 32 := 0#32
  let v59 : BitVec 1 := Scalar.cmpi .slt v57 c0_i32_44
  let c0_i32_45 : BitVec 32 := 0#32
  let v60 : BitVec 1 := Scalar.cmpi .slt v56 c0_i32_45
  let v61 : BitVec 1 := Scalar.xori v59 v60
  let c0_i32_43 : BitVec 32 := 0#32
  let v58 : BitVec 1 := Scalar.cmpi .ne v57 c0_i32_43
  let v62 : BitVec 1 := Scalar.andi v61 v58
  let v63 : BitVec 32 := Scalar.addi v57 v56
  let v64 : BitVec 32 := Scalar.select v62 v63 v57
  let c128_i32_54 : BitVec 32 := 128#32
  let v77 : BitVec 32 := Scalar.muli v64 c128_i32_54
  let c0_i32_57 : BitVec 32 := 0#32
  ![v77.toNat, 0]
def k0_off4 (d0 : Dev nD) (c0_i32_46 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v65 : BitVec 32 := Scalar.addi v2 c0_i32_46
  let c1_i32_47 : BitVec 32 := 1#32
  let v66 : BitVec 32 := Scalar.addi v65 c1_i32_47
  let c32_i32_48 : BitVec 32 := 32#32
  let c0_i32_49 : BitVec 32 := 0#32
  let v67 : BitVec 1 := Scalar.cmpi .eq c32_i32_48 c0_i32_49
  let c1_i32_50 : BitVec 32 := 1#32
  let v68 : BitVec 32 := Scalar.select v67 c1_i32_50 c32_i32_48
  let v69 : BitVec 32 := Scalar.remsi v66 v68
  let c0_i32_52 : BitVec 32 := 0#32
  let v71 : BitVec 1 := Scalar.cmpi .slt v69 c0_i32_52
  let c0_i32_53 : BitVec 32 := 0#32
  let v72 : BitVec 1 := Scalar.cmpi .slt v68 c0_i32_53
  let v73 : BitVec 1 := Scalar.xori v71 v72
  let c0_i32_51 : BitVec 32 := 0#32
  let v70 : BitVec 1 := Scalar.cmpi .ne v69 c0_i32_51
  let v74 : BitVec 1 := Scalar.andi v73 v70
  let v75 : BitVec 32 := Scalar.addi v69 v68
  let v76 : BitVec 32 := Scalar.select v74 v75 v69
  let c128_i32_55 : BitVec 32 := 128#32
  let v78 : BitVec 32 := Scalar.muli v76 c128_i32_55
  let c64_i32_56 : BitVec 32 := 64#32
  let v79 : BitVec 32 := Scalar.addi v78 c64_i32_56
  let c0_i32_58 : BitVec 32 := 0#32
  ![v79.toNat, 0]
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_101 : BitVec 32 := 1#32
  let v118 : BitVec 32 := Scalar.muli v24 c1_i32_101
  let v119 : BitVec 32 := Scalar.addi c0_i32_102 v118
  v119.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_104 : BitVec 32 := 1#32
  let v120 : BitVec 32 := Scalar.muli v13 c1_i32_104
  let v121 : BitVec 32 := Scalar.addi c0_i32_105 v120
  v121.toNat
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_109 : BitVec 32 := 1#32
  let v122 : BitVec 32 := Scalar.muli v13 c1_i32_109
  let v123 : BitVec 32 := Scalar.addi c0_i32_110 v122
  v123.toNat
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v130 : BitVec 32 := Scalar.muli v24 c1_i32_116
  let v131 : BitVec 32 := Scalar.addi c0_i32_117 v130
  v131.toNat
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v203 : BitVec 32 := Scalar.muli v24 c1_i32_183
  let v204 : BitVec 32 := Scalar.addi c0_i32_184 v203
  v204.toNat
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_186 : BitVec 32 := 1#32
  let v205 : BitVec 32 := Scalar.muli v13 c1_i32_186
  let v206 : BitVec 32 := Scalar.addi c0_i32_187 v205
  v206.toNat
def k0_dev11 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_195 : BitVec 32 := 1#32
  let v207 : BitVec 32 := Scalar.muli v13 c1_i32_195
  let v208 : BitVec 32 := Scalar.addi c0_i32_196 v207
  v208.toNat
def k0_dev12 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_202 : BitVec 32 := 1#32
  let v215 : BitVec 32 := Scalar.muli v24 c1_i32_202
  let v216 : BitVec 32 := Scalar.addi c0_i32_203 v215
  v216.toNat
def k0_dev13 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_270 : BitVec 32 := 1#32
  let v288 : BitVec 32 := Scalar.muli v24 c1_i32_270
  let v289 : BitVec 32 := Scalar.addi c0_i32_271 v288
  v289.toNat
def k0_dev14 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_273 : BitVec 32 := 1#32
  let v290 : BitVec 32 := Scalar.muli v13 c1_i32_273
  let v291 : BitVec 32 := Scalar.addi c0_i32_274 v290
  v291.toNat
def k0_dev15 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_282 : BitVec 32 := 1#32
  let v292 : BitVec 32 := Scalar.muli v13 c1_i32_282
  let v293 : BitVec 32 := Scalar.addi c0_i32_283 v292
  v293.toNat
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_289 : BitVec 32 := 1#32
  let v300 : BitVec 32 := Scalar.muli v24 c1_i32_289
  let v301 : BitVec 32 := Scalar.addi c0_i32_290 v300
  v301.toNat
def k0_dev17 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_356 : BitVec 32 := 1#32
  let v373 : BitVec 32 := Scalar.muli v24 c1_i32_356
  let v374 : BitVec 32 := Scalar.addi c0_i32_357 v373
  v374.toNat
def k0_dev18 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_359 : BitVec 32 := 1#32
  let v375 : BitVec 32 := Scalar.muli v13 c1_i32_359
  let v376 : BitVec 32 := Scalar.addi c0_i32_360 v375
  v376.toNat
def k0_dev19 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_368 : BitVec 32 := 1#32
  let v377 : BitVec 32 := Scalar.muli v13 c1_i32_368
  let v378 : BitVec 32 := Scalar.addi c0_i32_369 v377
  v378.toNat
def k0_dev20 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_375 : BitVec 32 := 1#32
  let v385 : BitVec 32 := Scalar.muli v24 c1_i32_375
  let v386 : BitVec 32 := Scalar.addi c0_i32_376 v385
  v386.toNat
def k0_dev21 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_442 : BitVec 32 := 1#32
  let v458 : BitVec 32 := Scalar.muli v24 c1_i32_442
  let v459 : BitVec 32 := Scalar.addi c0_i32_443 v458
  v459.toNat
def k0_dev22 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_445 : BitVec 32 := 1#32
  let v460 : BitVec 32 := Scalar.muli v13 c1_i32_445
  let v461 : BitVec 32 := Scalar.addi c0_i32_446 v460
  v461.toNat
def k0_dev23 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_454 : BitVec 32 := 1#32
  let v462 : BitVec 32 := Scalar.muli v13 c1_i32_454
  let v463 : BitVec 32 := Scalar.addi c0_i32_455 v462
  v463.toNat
def k0_dev24 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_461 : BitVec 32 := 1#32
  let v470 : BitVec 32 := Scalar.muli v24 c1_i32_461
  let v471 : BitVec 32 := Scalar.addi c0_i32_462 v470
  v471.toNat
def k0_dev25 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_528 : BitVec 32 := 1#32
  let v543 : BitVec 32 := Scalar.muli v24 c1_i32_528
  let v544 : BitVec 32 := Scalar.addi c0_i32_529 v543
  v544.toNat
def k0_dev26 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_531 : BitVec 32 := 1#32
  let v545 : BitVec 32 := Scalar.muli v13 c1_i32_531
  let v546 : BitVec 32 := Scalar.addi c0_i32_532 v545
  v546.toNat
def k0_dev27 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_540 : BitVec 32 := 1#32
  let v547 : BitVec 32 := Scalar.muli v13 c1_i32_540
  let v548 : BitVec 32 := Scalar.addi c0_i32_541 v547
  v548.toNat
def k0_dev28 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_547 : BitVec 32 := 1#32
  let v555 : BitVec 32 := Scalar.muli v24 c1_i32_547
  let v556 : BitVec 32 := Scalar.addi c0_i32_548 v555
  v556.toNat
def k0_dev29 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_614 : BitVec 32 := 1#32
  let v628 : BitVec 32 := Scalar.muli v24 c1_i32_614
  let v629 : BitVec 32 := Scalar.addi c0_i32_615 v628
  v629.toNat
def k0_dev30 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_617 : BitVec 32 := 1#32
  let v630 : BitVec 32 := Scalar.muli v13 c1_i32_617
  let v631 : BitVec 32 := Scalar.addi c0_i32_618 v630
  v631.toNat
def k0_dev31 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_626 : BitVec 32 := 1#32
  let v632 : BitVec 32 := Scalar.muli v13 c1_i32_626
  let v633 : BitVec 32 := Scalar.addi c0_i32_627 v632
  v633.toNat
def k0_dev32 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_633 : BitVec 32 := 1#32
  let v640 : BitVec 32 := Scalar.muli v24 c1_i32_633
  let v641 : BitVec 32 := Scalar.addi c0_i32_634 v640
  v641.toNat
def k0_dev33 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_700 : BitVec 32 := 1#32
  let v713 : BitVec 32 := Scalar.muli v24 c1_i32_700
  let v714 : BitVec 32 := Scalar.addi c0_i32_701 v713
  v714.toNat
def k0_dev34 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_703 : BitVec 32 := 1#32
  let v715 : BitVec 32 := Scalar.muli v13 c1_i32_703
  let v716 : BitVec 32 := Scalar.addi c0_i32_704 v715
  v716.toNat
def k0_dev35 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_712 : BitVec 32 := 1#32
  let v717 : BitVec 32 := Scalar.muli v13 c1_i32_712
  let v718 : BitVec 32 := Scalar.addi c0_i32_713 v717
  v718.toNat
def k0_dev36 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_719 : BitVec 32 := 1#32
  let v725 : BitVec 32 := Scalar.muli v24 c1_i32_719
  let v726 : BitVec 32 := Scalar.addi c0_i32_720 v725
  v726.toNat
def k0_dev37 (d0 : Dev nD) : Nat :=
  let c0_i32_787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_786 : BitVec 32 := 1#32
  let v798 : BitVec 32 := Scalar.muli v24 c1_i32_786
  let v799 : BitVec 32 := Scalar.addi c0_i32_787 v798
  v799.toNat
def k0_dev38 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_789 : BitVec 32 := 1#32
  let v800 : BitVec 32 := Scalar.muli v13 c1_i32_789
  let v801 : BitVec 32 := Scalar.addi c0_i32_790 v800
  v801.toNat
def k0_dev39 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_798 : BitVec 32 := 1#32
  let v802 : BitVec 32 := Scalar.muli v13 c1_i32_798
  let v803 : BitVec 32 := Scalar.addi c0_i32_799 v802
  v803.toNat
def k0_dev40 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_805 : BitVec 32 := 1#32
  let v810 : BitVec 32 := Scalar.muli v24 c1_i32_805
  let v811 : BitVec 32 := Scalar.addi c0_i32_806 v810
  v811.toNat
def k0_dev41 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_872 : BitVec 32 := 1#32
  let v883 : BitVec 32 := Scalar.muli v24 c1_i32_872
  let v884 : BitVec 32 := Scalar.addi c0_i32_873 v883
  v884.toNat
def k0_dev42 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_875 : BitVec 32 := 1#32
  let v885 : BitVec 32 := Scalar.muli v13 c1_i32_875
  let v886 : BitVec 32 := Scalar.addi c0_i32_876 v885
  v886.toNat
def k0_dev43 (d0 : Dev nD) : Nat :=
  let c0_i32_885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_884 : BitVec 32 := 1#32
  let v887 : BitVec 32 := Scalar.muli v13 c1_i32_884
  let v888 : BitVec 32 := Scalar.addi c0_i32_885 v887
  v888.toNat
def k0_dev44 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_891 : BitVec 32 := 1#32
  let v895 : BitVec 32 := Scalar.muli v24 c1_i32_891
  let v896 : BitVec 32 := Scalar.addi c0_i32_892 v895
  v896.toNat
def k0_dev45 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_958 : BitVec 32 := 1#32
  let v968 : BitVec 32 := Scalar.muli v24 c1_i32_958
  let v969 : BitVec 32 := Scalar.addi c0_i32_959 v968
  v969.toNat
def k0_dev46 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_961 : BitVec 32 := 1#32
  let v970 : BitVec 32 := Scalar.muli v13 c1_i32_961
  let v971 : BitVec 32 := Scalar.addi c0_i32_962 v970
  v971.toNat
def k0_dev47 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_970 : BitVec 32 := 1#32
  let v972 : BitVec 32 := Scalar.muli v13 c1_i32_970
  let v973 : BitVec 32 := Scalar.addi c0_i32_971 v972
  v973.toNat
def k0_dev48 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_977 : BitVec 32 := 1#32
  let v980 : BitVec 32 := Scalar.muli v24 c1_i32_977
  let v981 : BitVec 32 := Scalar.addi c0_i32_978 v980
  v981.toNat
def k0_dev49 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1044 : BitVec 32 := 1#32
  let v1053 : BitVec 32 := Scalar.muli v24 c1_i32_1044
  let v1054 : BitVec 32 := Scalar.addi c0_i32_1045 v1053
  v1054.toNat
def k0_dev50 (d0 : Dev nD) : Nat :=
  let c0_i32_1048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1047 : BitVec 32 := 1#32
  let v1055 : BitVec 32 := Scalar.muli v13 c1_i32_1047
  let v1056 : BitVec 32 := Scalar.addi c0_i32_1048 v1055
  v1056.toNat
def k0_dev51 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1056 : BitVec 32 := 1#32
  let v1057 : BitVec 32 := Scalar.muli v13 c1_i32_1056
  let v1058 : BitVec 32 := Scalar.addi c0_i32_1057 v1057
  v1058.toNat
def k0_dev52 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1063 : BitVec 32 := 1#32
  let v1065 : BitVec 32 := Scalar.muli v24 c1_i32_1063
  let v1066 : BitVec 32 := Scalar.addi c0_i32_1064 v1065
  v1066.toNat
def k0_dev53 (d0 : Dev nD) : Nat :=
  let c0_i32_1131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1130 : BitVec 32 := 1#32
  let v1138 : BitVec 32 := Scalar.muli v24 c1_i32_1130
  let v1139 : BitVec 32 := Scalar.addi c0_i32_1131 v1138
  v1139.toNat
def k0_dev54 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1133 : BitVec 32 := 1#32
  let v1140 : BitVec 32 := Scalar.muli v13 c1_i32_1133
  let v1141 : BitVec 32 := Scalar.addi c0_i32_1134 v1140
  v1141.toNat
def k0_dev55 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1142 : BitVec 32 := 1#32
  let v1142 : BitVec 32 := Scalar.muli v13 c1_i32_1142
  let v1143 : BitVec 32 := Scalar.addi c0_i32_1143 v1142
  v1143.toNat
def k0_dev56 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1149 : BitVec 32 := 1#32
  let v1150 : BitVec 32 := Scalar.muli v24 c1_i32_1149
  let v1151 : BitVec 32 := Scalar.addi c0_i32_1150 v1150
  v1151.toNat
def k0_dev57 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1216 : BitVec 32 := 1#32
  let v1223 : BitVec 32 := Scalar.muli v24 c1_i32_1216
  let v1224 : BitVec 32 := Scalar.addi c0_i32_1217 v1223
  v1224.toNat
def k0_dev58 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1219 : BitVec 32 := 1#32
  let v1225 : BitVec 32 := Scalar.muli v13 c1_i32_1219
  let v1226 : BitVec 32 := Scalar.addi c0_i32_1220 v1225
  v1226.toNat
def k0_dev59 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1228 : BitVec 32 := 1#32
  let v1227 : BitVec 32 := Scalar.muli v13 c1_i32_1228
  let v1228 : BitVec 32 := Scalar.addi c0_i32_1229 v1227
  v1228.toNat
def k0_dev60 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1235 : BitVec 32 := 1#32
  let v1235 : BitVec 32 := Scalar.muli v24 c1_i32_1235
  let v1236 : BitVec 32 := Scalar.addi c0_i32_1236 v1235
  v1236.toNat
def k0_dev61 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1302 : BitVec 32 := 1#32
  let v1308 : BitVec 32 := Scalar.muli v24 c1_i32_1302
  let v1309 : BitVec 32 := Scalar.addi c0_i32_1303 v1308
  v1309.toNat
def k0_dev62 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1305 : BitVec 32 := 1#32
  let v1310 : BitVec 32 := Scalar.muli v13 c1_i32_1305
  let v1311 : BitVec 32 := Scalar.addi c0_i32_1306 v1310
  v1311.toNat
def k0_dev63 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1314 : BitVec 32 := 1#32
  let v1312 : BitVec 32 := Scalar.muli v13 c1_i32_1314
  let v1313 : BitVec 32 := Scalar.addi c0_i32_1315 v1312
  v1313.toNat
def k0_dev64 (d0 : Dev nD) : Nat :=
  let c0_i32_1322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1321 : BitVec 32 := 1#32
  let v1320 : BitVec 32 := Scalar.muli v24 c1_i32_1321
  let v1321 : BitVec 32 := Scalar.addi c0_i32_1322 v1320
  v1321.toNat
def k0_dev65 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1388 : BitVec 32 := 1#32
  let v1393 : BitVec 32 := Scalar.muli v24 c1_i32_1388
  let v1394 : BitVec 32 := Scalar.addi c0_i32_1389 v1393
  v1394.toNat
def k0_dev66 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1391 : BitVec 32 := 1#32
  let v1395 : BitVec 32 := Scalar.muli v13 c1_i32_1391
  let v1396 : BitVec 32 := Scalar.addi c0_i32_1392 v1395
  v1396.toNat
def k0_dev67 (d0 : Dev nD) : Nat :=
  let c0_i32_1401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1400 : BitVec 32 := 1#32
  let v1397 : BitVec 32 := Scalar.muli v13 c1_i32_1400
  let v1398 : BitVec 32 := Scalar.addi c0_i32_1401 v1397
  v1398.toNat
def k0_dev68 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1407 : BitVec 32 := 1#32
  let v1405 : BitVec 32 := Scalar.muli v24 c1_i32_1407
  let v1406 : BitVec 32 := Scalar.addi c0_i32_1408 v1405
  v1406.toNat
def k0_dev69 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1474 : BitVec 32 := 1#32
  let v1478 : BitVec 32 := Scalar.muli v24 c1_i32_1474
  let v1479 : BitVec 32 := Scalar.addi c0_i32_1475 v1478
  v1479.toNat
def k0_dev70 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1477 : BitVec 32 := 1#32
  let v1480 : BitVec 32 := Scalar.muli v13 c1_i32_1477
  let v1481 : BitVec 32 := Scalar.addi c0_i32_1478 v1480
  v1481.toNat
def k0_dev71 (d0 : Dev nD) : Nat :=
  let c0_i32_1487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1486 : BitVec 32 := 1#32
  let v1482 : BitVec 32 := Scalar.muli v13 c1_i32_1486
  let v1483 : BitVec 32 := Scalar.addi c0_i32_1487 v1482
  v1483.toNat
def k0_dev72 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1493 : BitVec 32 := 1#32
  let v1490 : BitVec 32 := Scalar.muli v24 c1_i32_1493
  let v1491 : BitVec 32 := Scalar.addi c0_i32_1494 v1490
  v1491.toNat
def k0_dev73 (d0 : Dev nD) : Nat :=
  let c0_i32_1561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1560 : BitVec 32 := 1#32
  let v1563 : BitVec 32 := Scalar.muli v24 c1_i32_1560
  let v1564 : BitVec 32 := Scalar.addi c0_i32_1561 v1563
  v1564.toNat
def k0_dev74 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1563 : BitVec 32 := 1#32
  let v1565 : BitVec 32 := Scalar.muli v13 c1_i32_1563
  let v1566 : BitVec 32 := Scalar.addi c0_i32_1564 v1565
  v1566.toNat
def k0_dev75 (d0 : Dev nD) : Nat :=
  let c0_i32_1573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1572 : BitVec 32 := 1#32
  let v1567 : BitVec 32 := Scalar.muli v13 c1_i32_1572
  let v1568 : BitVec 32 := Scalar.addi c0_i32_1573 v1567
  v1568.toNat
def k0_dev76 (d0 : Dev nD) : Nat :=
  let c0_i32_1580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1579 : BitVec 32 := 1#32
  let v1575 : BitVec 32 := Scalar.muli v24 c1_i32_1579
  let v1576 : BitVec 32 := Scalar.addi c0_i32_1580 v1575
  v1576.toNat
def k0_dev77 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1646 : BitVec 32 := 1#32
  let v1648 : BitVec 32 := Scalar.muli v24 c1_i32_1646
  let v1649 : BitVec 32 := Scalar.addi c0_i32_1647 v1648
  v1649.toNat
def k0_dev78 (d0 : Dev nD) : Nat :=
  let c0_i32_1650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1649 : BitVec 32 := 1#32
  let v1650 : BitVec 32 := Scalar.muli v13 c1_i32_1649
  let v1651 : BitVec 32 := Scalar.addi c0_i32_1650 v1650
  v1651.toNat
def k0_dev79 (d0 : Dev nD) : Nat :=
  let c0_i32_1659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1658 : BitVec 32 := 1#32
  let v1652 : BitVec 32 := Scalar.muli v13 c1_i32_1658
  let v1653 : BitVec 32 := Scalar.addi c0_i32_1659 v1652
  v1653.toNat
def k0_dev80 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1665 : BitVec 32 := 1#32
  let v1660 : BitVec 32 := Scalar.muli v24 c1_i32_1665
  let v1661 : BitVec 32 := Scalar.addi c0_i32_1666 v1660
  v1661.toNat
def k0_dev81 (d0 : Dev nD) : Nat :=
  let c0_i32_1733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1732 : BitVec 32 := 1#32
  let v1733 : BitVec 32 := Scalar.muli v24 c1_i32_1732
  let v1734 : BitVec 32 := Scalar.addi c0_i32_1733 v1733
  v1734.toNat
def k0_dev82 (d0 : Dev nD) : Nat :=
  let c0_i32_1736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1735 : BitVec 32 := 1#32
  let v1735 : BitVec 32 := Scalar.muli v13 c1_i32_1735
  let v1736 : BitVec 32 := Scalar.addi c0_i32_1736 v1735
  v1736.toNat
def k0_dev83 (d0 : Dev nD) : Nat :=
  let c0_i32_1745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1744 : BitVec 32 := 1#32
  let v1737 : BitVec 32 := Scalar.muli v13 c1_i32_1744
  let v1738 : BitVec 32 := Scalar.addi c0_i32_1745 v1737
  v1738.toNat
def k0_dev84 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1751 : BitVec 32 := 1#32
  let v1745 : BitVec 32 := Scalar.muli v24 c1_i32_1751
  let v1746 : BitVec 32 := Scalar.addi c0_i32_1752 v1745
  v1746.toNat
def k0_dev85 (d0 : Dev nD) : Nat :=
  let c0_i32_1819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1818 : BitVec 32 := 1#32
  let v1818 : BitVec 32 := Scalar.muli v24 c1_i32_1818
  let v1819 : BitVec 32 := Scalar.addi c0_i32_1819 v1818
  v1819.toNat
def k0_dev86 (d0 : Dev nD) : Nat :=
  let c0_i32_1822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1821 : BitVec 32 := 1#32
  let v1820 : BitVec 32 := Scalar.muli v13 c1_i32_1821
  let v1821 : BitVec 32 := Scalar.addi c0_i32_1822 v1820
  v1821.toNat
def k0_dev87 (d0 : Dev nD) : Nat :=
  let c0_i32_1831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1830 : BitVec 32 := 1#32
  let v1822 : BitVec 32 := Scalar.muli v13 c1_i32_1830
  let v1823 : BitVec 32 := Scalar.addi c0_i32_1831 v1822
  v1823.toNat
def k0_dev88 (d0 : Dev nD) : Nat :=
  let c0_i32_1838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1837 : BitVec 32 := 1#32
  let v1830 : BitVec 32 := Scalar.muli v24 c1_i32_1837
  let v1831 : BitVec 32 := Scalar.addi c0_i32_1838 v1830
  v1831.toNat
def k0_dev89 (d0 : Dev nD) : Nat :=
  let c0_i32_1905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1904 : BitVec 32 := 1#32
  let v1903 : BitVec 32 := Scalar.muli v24 c1_i32_1904
  let v1904 : BitVec 32 := Scalar.addi c0_i32_1905 v1903
  v1904.toNat
def k0_dev90 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1907 : BitVec 32 := 1#32
  let v1905 : BitVec 32 := Scalar.muli v13 c1_i32_1907
  let v1906 : BitVec 32 := Scalar.addi c0_i32_1908 v1905
  v1906.toNat
def k0_dev91 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1916 : BitVec 32 := 1#32
  let v1907 : BitVec 32 := Scalar.muli v13 c1_i32_1916
  let v1908 : BitVec 32 := Scalar.addi c0_i32_1917 v1907
  v1908.toNat
def k0_dev92 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1923 : BitVec 32 := 1#32
  let v1915 : BitVec 32 := Scalar.muli v24 c1_i32_1923
  let v1916 : BitVec 32 := Scalar.addi c0_i32_1924 v1915
  v1916.toNat
def k0_dev93 (d0 : Dev nD) : Nat :=
  let c0_i32_1991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1990 : BitVec 32 := 1#32
  let v1988 : BitVec 32 := Scalar.muli v24 c1_i32_1990
  let v1989 : BitVec 32 := Scalar.addi c0_i32_1991 v1988
  v1989.toNat
def k0_dev94 (d0 : Dev nD) : Nat :=
  let c0_i32_1994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1993 : BitVec 32 := 1#32
  let v1990 : BitVec 32 := Scalar.muli v13 c1_i32_1993
  let v1991 : BitVec 32 := Scalar.addi c0_i32_1994 v1990
  v1991.toNat
def k0_dev95 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2002 : BitVec 32 := 1#32
  let v1992 : BitVec 32 := Scalar.muli v13 c1_i32_2002
  let v1993 : BitVec 32 := Scalar.addi c0_i32_2003 v1992
  v1993.toNat
def k0_dev96 (d0 : Dev nD) : Nat :=
  let c0_i32_2010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2009 : BitVec 32 := 1#32
  let v2000 : BitVec 32 := Scalar.muli v24 c1_i32_2009
  let v2001 : BitVec 32 := Scalar.addi c0_i32_2010 v2000
  v2001.toNat
def k0_dev97 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2076 : BitVec 32 := 1#32
  let v2073 : BitVec 32 := Scalar.muli v24 c1_i32_2076
  let v2074 : BitVec 32 := Scalar.addi c0_i32_2077 v2073
  v2074.toNat
def k0_dev98 (d0 : Dev nD) : Nat :=
  let c0_i32_2080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2079 : BitVec 32 := 1#32
  let v2075 : BitVec 32 := Scalar.muli v13 c1_i32_2079
  let v2076 : BitVec 32 := Scalar.addi c0_i32_2080 v2075
  v2076.toNat
def k0_dev99 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2088 : BitVec 32 := 1#32
  let v2077 : BitVec 32 := Scalar.muli v13 c1_i32_2088
  let v2078 : BitVec 32 := Scalar.addi c0_i32_2089 v2077
  v2078.toNat
def k0_dev100 (d0 : Dev nD) : Nat :=
  let c0_i32_2096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2095 : BitVec 32 := 1#32
  let v2085 : BitVec 32 := Scalar.muli v24 c1_i32_2095
  let v2086 : BitVec 32 := Scalar.addi c0_i32_2096 v2085
  v2086.toNat
def k0_dev101 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2162 : BitVec 32 := 1#32
  let v2158 : BitVec 32 := Scalar.muli v24 c1_i32_2162
  let v2159 : BitVec 32 := Scalar.addi c0_i32_2163 v2158
  v2159.toNat
def k0_dev102 (d0 : Dev nD) : Nat :=
  let c0_i32_2166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2165 : BitVec 32 := 1#32
  let v2160 : BitVec 32 := Scalar.muli v13 c1_i32_2165
  let v2161 : BitVec 32 := Scalar.addi c0_i32_2166 v2160
  v2161.toNat
def k0_dev103 (d0 : Dev nD) : Nat :=
  let c0_i32_2175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2174 : BitVec 32 := 1#32
  let v2162 : BitVec 32 := Scalar.muli v13 c1_i32_2174
  let v2163 : BitVec 32 := Scalar.addi c0_i32_2175 v2162
  v2163.toNat
def k0_dev104 (d0 : Dev nD) : Nat :=
  let c0_i32_2182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2181 : BitVec 32 := 1#32
  let v2170 : BitVec 32 := Scalar.muli v24 c1_i32_2181
  let v2171 : BitVec 32 := Scalar.addi c0_i32_2182 v2170
  v2171.toNat
def k0_dev105 (d0 : Dev nD) : Nat :=
  let c0_i32_2249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2248 : BitVec 32 := 1#32
  let v2243 : BitVec 32 := Scalar.muli v24 c1_i32_2248
  let v2244 : BitVec 32 := Scalar.addi c0_i32_2249 v2243
  v2244.toNat
def k0_dev106 (d0 : Dev nD) : Nat :=
  let c0_i32_2252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2251 : BitVec 32 := 1#32
  let v2245 : BitVec 32 := Scalar.muli v13 c1_i32_2251
  let v2246 : BitVec 32 := Scalar.addi c0_i32_2252 v2245
  v2246.toNat
def k0_dev107 (d0 : Dev nD) : Nat :=
  let c0_i32_2261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2260 : BitVec 32 := 1#32
  let v2247 : BitVec 32 := Scalar.muli v13 c1_i32_2260
  let v2248 : BitVec 32 := Scalar.addi c0_i32_2261 v2247
  v2248.toNat
def k0_dev108 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2267 : BitVec 32 := 1#32
  let v2255 : BitVec 32 := Scalar.muli v24 c1_i32_2267
  let v2256 : BitVec 32 := Scalar.addi c0_i32_2268 v2255
  v2256.toNat
def k0_dev109 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2334 : BitVec 32 := 1#32
  let v2328 : BitVec 32 := Scalar.muli v24 c1_i32_2334
  let v2329 : BitVec 32 := Scalar.addi c0_i32_2335 v2328
  v2329.toNat
def k0_dev110 (d0 : Dev nD) : Nat :=
  let c0_i32_2338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2337 : BitVec 32 := 1#32
  let v2330 : BitVec 32 := Scalar.muli v13 c1_i32_2337
  let v2331 : BitVec 32 := Scalar.addi c0_i32_2338 v2330
  v2331.toNat
def k0_dev111 (d0 : Dev nD) : Nat :=
  let c0_i32_2347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2346 : BitVec 32 := 1#32
  let v2332 : BitVec 32 := Scalar.muli v13 c1_i32_2346
  let v2333 : BitVec 32 := Scalar.addi c0_i32_2347 v2332
  v2333.toNat
def k0_dev112 (d0 : Dev nD) : Nat :=
  let c0_i32_2354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2353 : BitVec 32 := 1#32
  let v2340 : BitVec 32 := Scalar.muli v24 c1_i32_2353
  let v2341 : BitVec 32 := Scalar.addi c0_i32_2354 v2340
  v2341.toNat
def k0_dev113 (d0 : Dev nD) : Nat :=
  let c0_i32_2421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2420 : BitVec 32 := 1#32
  let v2413 : BitVec 32 := Scalar.muli v24 c1_i32_2420
  let v2414 : BitVec 32 := Scalar.addi c0_i32_2421 v2413
  v2414.toNat
def k0_dev114 (d0 : Dev nD) : Nat :=
  let c0_i32_2424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2423 : BitVec 32 := 1#32
  let v2415 : BitVec 32 := Scalar.muli v13 c1_i32_2423
  let v2416 : BitVec 32 := Scalar.addi c0_i32_2424 v2415
  v2416.toNat
def k0_dev115 (d0 : Dev nD) : Nat :=
  let c0_i32_2433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2432 : BitVec 32 := 1#32
  let v2417 : BitVec 32 := Scalar.muli v13 c1_i32_2432
  let v2418 : BitVec 32 := Scalar.addi c0_i32_2433 v2417
  v2418.toNat
def k0_dev116 (d0 : Dev nD) : Nat :=
  let c0_i32_2440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2439 : BitVec 32 := 1#32
  let v2425 : BitVec 32 := Scalar.muli v24 c1_i32_2439
  let v2426 : BitVec 32 := Scalar.addi c0_i32_2440 v2425
  v2426.toNat
def k0_dev117 (d0 : Dev nD) : Nat :=
  let c0_i32_2507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2506 : BitVec 32 := 1#32
  let v2498 : BitVec 32 := Scalar.muli v24 c1_i32_2506
  let v2499 : BitVec 32 := Scalar.addi c0_i32_2507 v2498
  v2499.toNat
def k0_dev118 (d0 : Dev nD) : Nat :=
  let c0_i32_2510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2509 : BitVec 32 := 1#32
  let v2500 : BitVec 32 := Scalar.muli v13 c1_i32_2509
  let v2501 : BitVec 32 := Scalar.addi c0_i32_2510 v2500
  v2501.toNat
def k0_dev119 (d0 : Dev nD) : Nat :=
  let c0_i32_2519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2518 : BitVec 32 := 1#32
  let v2502 : BitVec 32 := Scalar.muli v13 c1_i32_2518
  let v2503 : BitVec 32 := Scalar.addi c0_i32_2519 v2502
  v2503.toNat
def k0_dev120 (d0 : Dev nD) : Nat :=
  let c0_i32_2526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2525 : BitVec 32 := 1#32
  let v2510 : BitVec 32 := Scalar.muli v24 c1_i32_2525
  let v2511 : BitVec 32 := Scalar.addi c0_i32_2526 v2510
  v2511.toNat
def k0_dev121 (d0 : Dev nD) : Nat :=
  let c0_i32_2593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2592 : BitVec 32 := 1#32
  let v2583 : BitVec 32 := Scalar.muli v24 c1_i32_2592
  let v2584 : BitVec 32 := Scalar.addi c0_i32_2593 v2583
  v2584.toNat
def k0_dev122 (d0 : Dev nD) : Nat :=
  let c0_i32_2596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2595 : BitVec 32 := 1#32
  let v2585 : BitVec 32 := Scalar.muli v13 c1_i32_2595
  let v2586 : BitVec 32 := Scalar.addi c0_i32_2596 v2585
  v2586.toNat
def k0_dev123 (d0 : Dev nD) : Nat :=
  let c0_i32_2605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2604 : BitVec 32 := 1#32
  let v2587 : BitVec 32 := Scalar.muli v13 c1_i32_2604
  let v2588 : BitVec 32 := Scalar.addi c0_i32_2605 v2587
  v2588.toNat
def k0_dev124 (d0 : Dev nD) : Nat :=
  let c0_i32_2612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2611 : BitVec 32 := 1#32
  let v2595 : BitVec 32 := Scalar.muli v24 c1_i32_2611
  let v2596 : BitVec 32 := Scalar.addi c0_i32_2612 v2595
  v2596.toNat
def k0_dev125 (d0 : Dev nD) : Nat :=
  let c0_i32_2679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2678 : BitVec 32 := 1#32
  let v2668 : BitVec 32 := Scalar.muli v24 c1_i32_2678
  let v2669 : BitVec 32 := Scalar.addi c0_i32_2679 v2668
  v2669.toNat
def k0_dev126 (d0 : Dev nD) : Nat :=
  let c0_i32_2682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2681 : BitVec 32 := 1#32
  let v2670 : BitVec 32 := Scalar.muli v13 c1_i32_2681
  let v2671 : BitVec 32 := Scalar.addi c0_i32_2682 v2670
  v2671.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2683 : BitVec 32 := 1#32
  let v2672 : BitVec 32 := Scalar.addi v2 c1_i32_2683
  let c32_i32_2684 : BitVec 32 := 32#32
  let c0_i32_2685 : BitVec 32 := 0#32
  let v2673 : BitVec 1 := Scalar.cmpi .eq c32_i32_2684 c0_i32_2685
  let c1_i32_2686 : BitVec 32 := 1#32
  let v2674 : BitVec 32 := Scalar.select v2673 c1_i32_2686 c32_i32_2684
  let v2675 : BitVec 32 := Scalar.remsi v2672 v2674
  let c0_i32_2688 : BitVec 32 := 0#32
  let v2677 : BitVec 1 := Scalar.cmpi .slt v2675 c0_i32_2688
  let c0_i32_2689 : BitVec 32 := 0#32
  let v2678 : BitVec 1 := Scalar.cmpi .slt v2674 c0_i32_2689
  let v2679 : BitVec 1 := Scalar.xori v2677 v2678
  let c0_i32_2687 : BitVec 32 := 0#32
  let v2676 : BitVec 1 := Scalar.cmpi .ne v2675 c0_i32_2687
  let v2680 : BitVec 1 := Scalar.andi v2679 v2676
  let v2681 : BitVec 32 := Scalar.addi v2675 v2674
  let v2682 : BitVec 32 := Scalar.select v2680 v2681 v2675
  let c128_i32_2697 : BitVec 32 := 128#32
  let v2694 : BitVec 32 := Scalar.muli v2682 c128_i32_2697
  let c0_i32_2700 : BitVec 32 := 0#32
  ![v2694.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2690 : BitVec 32 := 1#32
  let v2683 : BitVec 32 := Scalar.subi v2 c1_i32_2690
  let c32_i32_2691 : BitVec 32 := 32#32
  let c0_i32_2692 : BitVec 32 := 0#32
  let v2684 : BitVec 1 := Scalar.cmpi .eq c32_i32_2691 c0_i32_2692
  let c1_i32_2693 : BitVec 32 := 1#32
  let v2685 : BitVec 32 := Scalar.select v2684 c1_i32_2693 c32_i32_2691
  let v2686 : BitVec 32 := Scalar.remsi v2683 v2685
  let c0_i32_2695 : BitVec 32 := 0#32
  let v2688 : BitVec 1 := Scalar.cmpi .slt v2686 c0_i32_2695
  let c0_i32_2696 : BitVec 32 := 0#32
  let v2689 : BitVec 1 := Scalar.cmpi .slt v2685 c0_i32_2696
  let v2690 : BitVec 1 := Scalar.xori v2688 v2689
  let c0_i32_2694 : BitVec 32 := 0#32
  let v2687 : BitVec 1 := Scalar.cmpi .ne v2686 c0_i32_2694
  let v2691 : BitVec 1 := Scalar.andi v2690 v2687
  let v2692 : BitVec 32 := Scalar.addi v2686 v2685
  let v2693 : BitVec 32 := Scalar.select v2691 v2692 v2686
  let c128_i32_2698 : BitVec 32 := 128#32
  let v2695 : BitVec 32 := Scalar.muli v2693 c128_i32_2698
  let c64_i32_2699 : BitVec 32 := 64#32
  let v2696 : BitVec 32 := Scalar.addi v2695 c64_i32_2699
  let c0_i32_2701 : BitVec 32 := 0#32
  ![v2696.toNat, 0]
def k0_dev127 (d0 : Dev nD) : Nat :=
  let c0_i32_2712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2711 : BitVec 32 := 1#32
  let v2701 : BitVec 32 := Scalar.muli v13 c1_i32_2711
  let v2702 : BitVec 32 := Scalar.addi c0_i32_2712 v2701
  v2702.toNat
def k0_dev128 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2718 : BitVec 32 := 1#32
  let v2709 : BitVec 32 := Scalar.muli v24 c1_i32_2718
  let v2710 : BitVec 32 := Scalar.addi c0_i32_2719 v2709
  v2710.toNat
def k0_off7 (d0 : Dev nD) (c0_i32_2722 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2717 : BitVec 32 := Scalar.subi v2 c0_i32_2722
  let c32_i32_2723 : BitVec 32 := 32#32
  let c0_i32_2724 : BitVec 32 := 0#32
  let v2718 : BitVec 1 := Scalar.cmpi .eq c32_i32_2723 c0_i32_2724
  let c1_i32_2725 : BitVec 32 := 1#32
  let v2719 : BitVec 32 := Scalar.select v2718 c1_i32_2725 c32_i32_2723
  let v2720 : BitVec 32 := Scalar.remsi v2717 v2719
  let c0_i32_2727 : BitVec 32 := 0#32
  let v2722 : BitVec 1 := Scalar.cmpi .slt v2720 c0_i32_2727
  let c0_i32_2728 : BitVec 32 := 0#32
  let v2723 : BitVec 1 := Scalar.cmpi .slt v2719 c0_i32_2728
  let v2724 : BitVec 1 := Scalar.xori v2722 v2723
  let c0_i32_2726 : BitVec 32 := 0#32
  let v2721 : BitVec 1 := Scalar.cmpi .ne v2720 c0_i32_2726
  let v2725 : BitVec 1 := Scalar.andi v2724 v2721
  let v2726 : BitVec 32 := Scalar.addi v2720 v2719
  let v2727 : BitVec 32 := Scalar.select v2725 v2726 v2720
  let c128_i32_2772 : BitVec 32 := 128#32
  let v2769 : BitVec 32 := Scalar.muli v2727 c128_i32_2772
  let c0_i32_2775 : BitVec 32 := 0#32
  ![v2769.toNat, 0]
def k0_off8 (d0 : Dev nD) (c0_i32_2729 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2728 : BitVec 32 := Scalar.addi v2 c0_i32_2729
  let c32_i32_2730 : BitVec 32 := 32#32
  let c0_i32_2731 : BitVec 32 := 0#32
  let v2729 : BitVec 1 := Scalar.cmpi .eq c32_i32_2730 c0_i32_2731
  let c1_i32_2732 : BitVec 32 := 1#32
  let v2730 : BitVec 32 := Scalar.select v2729 c1_i32_2732 c32_i32_2730
  let v2731 : BitVec 32 := Scalar.remsi v2728 v2730
  let c0_i32_2734 : BitVec 32 := 0#32
  let v2733 : BitVec 1 := Scalar.cmpi .slt v2731 c0_i32_2734
  let c0_i32_2735 : BitVec 32 := 0#32
  let v2734 : BitVec 1 := Scalar.cmpi .slt v2730 c0_i32_2735
  let v2735 : BitVec 1 := Scalar.xori v2733 v2734
  let c0_i32_2733 : BitVec 32 := 0#32
  let v2732 : BitVec 1 := Scalar.cmpi .ne v2731 c0_i32_2733
  let v2736 : BitVec 1 := Scalar.andi v2735 v2732
  let v2737 : BitVec 32 := Scalar.addi v2731 v2730
  let v2738 : BitVec 32 := Scalar.select v2736 v2737 v2731
  let c128_i32_2773 : BitVec 32 := 128#32
  let v2770 : BitVec 32 := Scalar.muli v2738 c128_i32_2773
  let c64_i32_2774 : BitVec 32 := 64#32
  let v2771 : BitVec 32 := Scalar.addi v2770 c64_i32_2774
  let c0_i32_2776 : BitVec 32 := 0#32
  ![v2771.toNat, 0]
def k0_dev129 (d0 : Dev nD) : Nat :=
  let c0_i32_2781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2780 : BitVec 32 := 1#32
  let v2776 : BitVec 32 := Scalar.muli v24 c1_i32_2780
  let v2777 : BitVec 32 := Scalar.addi c0_i32_2781 v2776
  v2777.toNat
def k0_dev130 (d0 : Dev nD) : Nat :=
  let c0_i32_2784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2783 : BitVec 32 := 1#32
  let v2778 : BitVec 32 := Scalar.muli v13 c1_i32_2783
  let v2779 : BitVec 32 := Scalar.addi c0_i32_2784 v2778
  v2779.toNat
def k0_dev131 (d0 : Dev nD) : Nat :=
  let c0_i32_2793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2792 : BitVec 32 := 1#32
  let v2780 : BitVec 32 := Scalar.muli v13 c1_i32_2792
  let v2781 : BitVec 32 := Scalar.addi c0_i32_2793 v2780
  v2781.toNat
def k0_dev132 (d0 : Dev nD) : Nat :=
  let c0_i32_2800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2799 : BitVec 32 := 1#32
  let v2788 : BitVec 32 := Scalar.muli v24 c1_i32_2799
  let v2789 : BitVec 32 := Scalar.addi c0_i32_2800 v2788
  v2789.toNat
def k0_dev133 (d0 : Dev nD) : Nat :=
  let c0_i32_2862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2861 : BitVec 32 := 1#32
  let v2855 : BitVec 32 := Scalar.muli v24 c1_i32_2861
  let v2856 : BitVec 32 := Scalar.addi c0_i32_2862 v2855
  v2856.toNat
def k0_dev134 (d0 : Dev nD) : Nat :=
  let c0_i32_2865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2864 : BitVec 32 := 1#32
  let v2857 : BitVec 32 := Scalar.muli v13 c1_i32_2864
  let v2858 : BitVec 32 := Scalar.addi c0_i32_2865 v2857
  v2858.toNat
def k0_dev135 (d0 : Dev nD) : Nat :=
  let c0_i32_2874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2873 : BitVec 32 := 1#32
  let v2859 : BitVec 32 := Scalar.muli v13 c1_i32_2873
  let v2860 : BitVec 32 := Scalar.addi c0_i32_2874 v2859
  v2860.toNat
def k0_dev136 (d0 : Dev nD) : Nat :=
  let c0_i32_2881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2880 : BitVec 32 := 1#32
  let v2867 : BitVec 32 := Scalar.muli v24 c1_i32_2880
  let v2868 : BitVec 32 := Scalar.addi c0_i32_2881 v2867
  v2868.toNat
def k0_dev137 (d0 : Dev nD) : Nat :=
  let c0_i32_2943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2942 : BitVec 32 := 1#32
  let v2934 : BitVec 32 := Scalar.muli v24 c1_i32_2942
  let v2935 : BitVec 32 := Scalar.addi c0_i32_2943 v2934
  v2935.toNat
def k0_dev138 (d0 : Dev nD) : Nat :=
  let c0_i32_2946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2945 : BitVec 32 := 1#32
  let v2936 : BitVec 32 := Scalar.muli v13 c1_i32_2945
  let v2937 : BitVec 32 := Scalar.addi c0_i32_2946 v2936
  v2937.toNat
def k0_dev139 (d0 : Dev nD) : Nat :=
  let c0_i32_2955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2954 : BitVec 32 := 1#32
  let v2938 : BitVec 32 := Scalar.muli v13 c1_i32_2954
  let v2939 : BitVec 32 := Scalar.addi c0_i32_2955 v2938
  v2939.toNat
def k0_dev140 (d0 : Dev nD) : Nat :=
  let c0_i32_2962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2961 : BitVec 32 := 1#32
  let v2946 : BitVec 32 := Scalar.muli v24 c1_i32_2961
  let v2947 : BitVec 32 := Scalar.addi c0_i32_2962 v2946
  v2947.toNat
def k0_dev141 (d0 : Dev nD) : Nat :=
  let c0_i32_3024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3023 : BitVec 32 := 1#32
  let v3013 : BitVec 32 := Scalar.muli v24 c1_i32_3023
  let v3014 : BitVec 32 := Scalar.addi c0_i32_3024 v3013
  v3014.toNat
def k0_dev142 (d0 : Dev nD) : Nat :=
  let c0_i32_3027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3026 : BitVec 32 := 1#32
  let v3015 : BitVec 32 := Scalar.muli v13 c1_i32_3026
  let v3016 : BitVec 32 := Scalar.addi c0_i32_3027 v3015
  v3016.toNat
def k0_dev143 (d0 : Dev nD) : Nat :=
  let c0_i32_3036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3035 : BitVec 32 := 1#32
  let v3017 : BitVec 32 := Scalar.muli v13 c1_i32_3035
  let v3018 : BitVec 32 := Scalar.addi c0_i32_3036 v3017
  v3018.toNat
def k0_dev144 (d0 : Dev nD) : Nat :=
  let c0_i32_3043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3042 : BitVec 32 := 1#32
  let v3025 : BitVec 32 := Scalar.muli v24 c1_i32_3042
  let v3026 : BitVec 32 := Scalar.addi c0_i32_3043 v3025
  v3026.toNat
def k0_dev145 (d0 : Dev nD) : Nat :=
  let c0_i32_3105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3104 : BitVec 32 := 1#32
  let v3092 : BitVec 32 := Scalar.muli v24 c1_i32_3104
  let v3093 : BitVec 32 := Scalar.addi c0_i32_3105 v3092
  v3093.toNat
def k0_dev146 (d0 : Dev nD) : Nat :=
  let c0_i32_3108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3107 : BitVec 32 := 1#32
  let v3094 : BitVec 32 := Scalar.muli v13 c1_i32_3107
  let v3095 : BitVec 32 := Scalar.addi c0_i32_3108 v3094
  v3095.toNat
def k0_dev147 (d0 : Dev nD) : Nat :=
  let c0_i32_3117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3116 : BitVec 32 := 1#32
  let v3096 : BitVec 32 := Scalar.muli v13 c1_i32_3116
  let v3097 : BitVec 32 := Scalar.addi c0_i32_3117 v3096
  v3097.toNat
def k0_dev148 (d0 : Dev nD) : Nat :=
  let c0_i32_3124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3123 : BitVec 32 := 1#32
  let v3104 : BitVec 32 := Scalar.muli v24 c1_i32_3123
  let v3105 : BitVec 32 := Scalar.addi c0_i32_3124 v3104
  v3105.toNat
def k0_dev149 (d0 : Dev nD) : Nat :=
  let c0_i32_3186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3185 : BitVec 32 := 1#32
  let v3171 : BitVec 32 := Scalar.muli v24 c1_i32_3185
  let v3172 : BitVec 32 := Scalar.addi c0_i32_3186 v3171
  v3172.toNat
def k0_dev150 (d0 : Dev nD) : Nat :=
  let c0_i32_3189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3188 : BitVec 32 := 1#32
  let v3173 : BitVec 32 := Scalar.muli v13 c1_i32_3188
  let v3174 : BitVec 32 := Scalar.addi c0_i32_3189 v3173
  v3174.toNat
def k0_dev151 (d0 : Dev nD) : Nat :=
  let c0_i32_3198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3197 : BitVec 32 := 1#32
  let v3175 : BitVec 32 := Scalar.muli v13 c1_i32_3197
  let v3176 : BitVec 32 := Scalar.addi c0_i32_3198 v3175
  v3176.toNat
def k0_dev152 (d0 : Dev nD) : Nat :=
  let c0_i32_3205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3204 : BitVec 32 := 1#32
  let v3183 : BitVec 32 := Scalar.muli v24 c1_i32_3204
  let v3184 : BitVec 32 := Scalar.addi c0_i32_3205 v3183
  v3184.toNat
def k0_dev153 (d0 : Dev nD) : Nat :=
  let c0_i32_3267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3266 : BitVec 32 := 1#32
  let v3250 : BitVec 32 := Scalar.muli v24 c1_i32_3266
  let v3251 : BitVec 32 := Scalar.addi c0_i32_3267 v3250
  v3251.toNat
def k0_dev154 (d0 : Dev nD) : Nat :=
  let c0_i32_3270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3269 : BitVec 32 := 1#32
  let v3252 : BitVec 32 := Scalar.muli v13 c1_i32_3269
  let v3253 : BitVec 32 := Scalar.addi c0_i32_3270 v3252
  v3253.toNat
def k0_dev155 (d0 : Dev nD) : Nat :=
  let c0_i32_3279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3278 : BitVec 32 := 1#32
  let v3254 : BitVec 32 := Scalar.muli v13 c1_i32_3278
  let v3255 : BitVec 32 := Scalar.addi c0_i32_3279 v3254
  v3255.toNat
def k0_dev156 (d0 : Dev nD) : Nat :=
  let c0_i32_3286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3285 : BitVec 32 := 1#32
  let v3262 : BitVec 32 := Scalar.muli v24 c1_i32_3285
  let v3263 : BitVec 32 := Scalar.addi c0_i32_3286 v3262
  v3263.toNat
def k0_dev157 (d0 : Dev nD) : Nat :=
  let c0_i32_3348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3347 : BitVec 32 := 1#32
  let v3329 : BitVec 32 := Scalar.muli v24 c1_i32_3347
  let v3330 : BitVec 32 := Scalar.addi c0_i32_3348 v3329
  v3330.toNat
def k0_dev158 (d0 : Dev nD) : Nat :=
  let c0_i32_3351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3350 : BitVec 32 := 1#32
  let v3331 : BitVec 32 := Scalar.muli v13 c1_i32_3350
  let v3332 : BitVec 32 := Scalar.addi c0_i32_3351 v3331
  v3332.toNat
def k0_dev159 (d0 : Dev nD) : Nat :=
  let c0_i32_3360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3359 : BitVec 32 := 1#32
  let v3333 : BitVec 32 := Scalar.muli v13 c1_i32_3359
  let v3334 : BitVec 32 := Scalar.addi c0_i32_3360 v3333
  v3334.toNat
def k0_dev160 (d0 : Dev nD) : Nat :=
  let c0_i32_3367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3366 : BitVec 32 := 1#32
  let v3341 : BitVec 32 := Scalar.muli v24 c1_i32_3366
  let v3342 : BitVec 32 := Scalar.addi c0_i32_3367 v3341
  v3342.toNat
def k0_dev161 (d0 : Dev nD) : Nat :=
  let c0_i32_3429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3428 : BitVec 32 := 1#32
  let v3408 : BitVec 32 := Scalar.muli v24 c1_i32_3428
  let v3409 : BitVec 32 := Scalar.addi c0_i32_3429 v3408
  v3409.toNat
def k0_dev162 (d0 : Dev nD) : Nat :=
  let c0_i32_3432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3431 : BitVec 32 := 1#32
  let v3410 : BitVec 32 := Scalar.muli v13 c1_i32_3431
  let v3411 : BitVec 32 := Scalar.addi c0_i32_3432 v3410
  v3411.toNat
def k0_dev163 (d0 : Dev nD) : Nat :=
  let c0_i32_3441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3440 : BitVec 32 := 1#32
  let v3412 : BitVec 32 := Scalar.muli v13 c1_i32_3440
  let v3413 : BitVec 32 := Scalar.addi c0_i32_3441 v3412
  v3413.toNat
def k0_dev164 (d0 : Dev nD) : Nat :=
  let c0_i32_3448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3447 : BitVec 32 := 1#32
  let v3420 : BitVec 32 := Scalar.muli v24 c1_i32_3447
  let v3421 : BitVec 32 := Scalar.addi c0_i32_3448 v3420
  v3421.toNat
def k0_dev165 (d0 : Dev nD) : Nat :=
  let c0_i32_3510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3509 : BitVec 32 := 1#32
  let v3487 : BitVec 32 := Scalar.muli v24 c1_i32_3509
  let v3488 : BitVec 32 := Scalar.addi c0_i32_3510 v3487
  v3488.toNat
def k0_dev166 (d0 : Dev nD) : Nat :=
  let c0_i32_3513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3512 : BitVec 32 := 1#32
  let v3489 : BitVec 32 := Scalar.muli v13 c1_i32_3512
  let v3490 : BitVec 32 := Scalar.addi c0_i32_3513 v3489
  v3490.toNat
def k0_dev167 (d0 : Dev nD) : Nat :=
  let c0_i32_3522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3521 : BitVec 32 := 1#32
  let v3491 : BitVec 32 := Scalar.muli v13 c1_i32_3521
  let v3492 : BitVec 32 := Scalar.addi c0_i32_3522 v3491
  v3492.toNat
def k0_dev168 (d0 : Dev nD) : Nat :=
  let c0_i32_3529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3528 : BitVec 32 := 1#32
  let v3499 : BitVec 32 := Scalar.muli v24 c1_i32_3528
  let v3500 : BitVec 32 := Scalar.addi c0_i32_3529 v3499
  v3500.toNat
def k0_dev169 (d0 : Dev nD) : Nat :=
  let c0_i32_3591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3590 : BitVec 32 := 1#32
  let v3566 : BitVec 32 := Scalar.muli v24 c1_i32_3590
  let v3567 : BitVec 32 := Scalar.addi c0_i32_3591 v3566
  v3567.toNat
def k0_dev170 (d0 : Dev nD) : Nat :=
  let c0_i32_3594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3593 : BitVec 32 := 1#32
  let v3568 : BitVec 32 := Scalar.muli v13 c1_i32_3593
  let v3569 : BitVec 32 := Scalar.addi c0_i32_3594 v3568
  v3569.toNat
def k0_dev171 (d0 : Dev nD) : Nat :=
  let c0_i32_3603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3602 : BitVec 32 := 1#32
  let v3570 : BitVec 32 := Scalar.muli v13 c1_i32_3602
  let v3571 : BitVec 32 := Scalar.addi c0_i32_3603 v3570
  v3571.toNat
def k0_dev172 (d0 : Dev nD) : Nat :=
  let c0_i32_3610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3609 : BitVec 32 := 1#32
  let v3578 : BitVec 32 := Scalar.muli v24 c1_i32_3609
  let v3579 : BitVec 32 := Scalar.addi c0_i32_3610 v3578
  v3579.toNat
def k0_dev173 (d0 : Dev nD) : Nat :=
  let c0_i32_3672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3671 : BitVec 32 := 1#32
  let v3645 : BitVec 32 := Scalar.muli v24 c1_i32_3671
  let v3646 : BitVec 32 := Scalar.addi c0_i32_3672 v3645
  v3646.toNat
def k0_dev174 (d0 : Dev nD) : Nat :=
  let c0_i32_3675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3674 : BitVec 32 := 1#32
  let v3647 : BitVec 32 := Scalar.muli v13 c1_i32_3674
  let v3648 : BitVec 32 := Scalar.addi c0_i32_3675 v3647
  v3648.toNat
def k0_dev175 (d0 : Dev nD) : Nat :=
  let c0_i32_3684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3683 : BitVec 32 := 1#32
  let v3649 : BitVec 32 := Scalar.muli v13 c1_i32_3683
  let v3650 : BitVec 32 := Scalar.addi c0_i32_3684 v3649
  v3650.toNat
def k0_dev176 (d0 : Dev nD) : Nat :=
  let c0_i32_3691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3690 : BitVec 32 := 1#32
  let v3657 : BitVec 32 := Scalar.muli v24 c1_i32_3690
  let v3658 : BitVec 32 := Scalar.addi c0_i32_3691 v3657
  v3658.toNat
def k0_dev177 (d0 : Dev nD) : Nat :=
  let c0_i32_3753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3752 : BitVec 32 := 1#32
  let v3724 : BitVec 32 := Scalar.muli v24 c1_i32_3752
  let v3725 : BitVec 32 := Scalar.addi c0_i32_3753 v3724
  v3725.toNat
def k0_dev178 (d0 : Dev nD) : Nat :=
  let c0_i32_3756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3755 : BitVec 32 := 1#32
  let v3726 : BitVec 32 := Scalar.muli v13 c1_i32_3755
  let v3727 : BitVec 32 := Scalar.addi c0_i32_3756 v3726
  v3727.toNat
def k0_dev179 (d0 : Dev nD) : Nat :=
  let c0_i32_3765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3764 : BitVec 32 := 1#32
  let v3728 : BitVec 32 := Scalar.muli v13 c1_i32_3764
  let v3729 : BitVec 32 := Scalar.addi c0_i32_3765 v3728
  v3729.toNat
def k0_dev180 (d0 : Dev nD) : Nat :=
  let c0_i32_3772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3771 : BitVec 32 := 1#32
  let v3736 : BitVec 32 := Scalar.muli v24 c1_i32_3771
  let v3737 : BitVec 32 := Scalar.addi c0_i32_3772 v3736
  v3737.toNat
def k0_dev181 (d0 : Dev nD) : Nat :=
  let c0_i32_3834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3833 : BitVec 32 := 1#32
  let v3803 : BitVec 32 := Scalar.muli v24 c1_i32_3833
  let v3804 : BitVec 32 := Scalar.addi c0_i32_3834 v3803
  v3804.toNat
def k0_dev182 (d0 : Dev nD) : Nat :=
  let c0_i32_3837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3836 : BitVec 32 := 1#32
  let v3805 : BitVec 32 := Scalar.muli v13 c1_i32_3836
  let v3806 : BitVec 32 := Scalar.addi c0_i32_3837 v3805
  v3806.toNat
def k0_dev183 (d0 : Dev nD) : Nat :=
  let c0_i32_3846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3845 : BitVec 32 := 1#32
  let v3807 : BitVec 32 := Scalar.muli v13 c1_i32_3845
  let v3808 : BitVec 32 := Scalar.addi c0_i32_3846 v3807
  v3808.toNat
def k0_dev184 (d0 : Dev nD) : Nat :=
  let c0_i32_3853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3852 : BitVec 32 := 1#32
  let v3815 : BitVec 32 := Scalar.muli v24 c1_i32_3852
  let v3816 : BitVec 32 := Scalar.addi c0_i32_3853 v3815
  v3816.toNat
def k0_dev185 (d0 : Dev nD) : Nat :=
  let c0_i32_3915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3914 : BitVec 32 := 1#32
  let v3882 : BitVec 32 := Scalar.muli v24 c1_i32_3914
  let v3883 : BitVec 32 := Scalar.addi c0_i32_3915 v3882
  v3883.toNat
def k0_dev186 (d0 : Dev nD) : Nat :=
  let c0_i32_3918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3917 : BitVec 32 := 1#32
  let v3884 : BitVec 32 := Scalar.muli v13 c1_i32_3917
  let v3885 : BitVec 32 := Scalar.addi c0_i32_3918 v3884
  v3885.toNat
def k0_dev187 (d0 : Dev nD) : Nat :=
  let c0_i32_3927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3926 : BitVec 32 := 1#32
  let v3886 : BitVec 32 := Scalar.muli v13 c1_i32_3926
  let v3887 : BitVec 32 := Scalar.addi c0_i32_3927 v3886
  v3887.toNat
def k0_dev188 (d0 : Dev nD) : Nat :=
  let c0_i32_3934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3933 : BitVec 32 := 1#32
  let v3894 : BitVec 32 := Scalar.muli v24 c1_i32_3933
  let v3895 : BitVec 32 := Scalar.addi c0_i32_3934 v3894
  v3895.toNat
def k0_dev189 (d0 : Dev nD) : Nat :=
  let c0_i32_3996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3995 : BitVec 32 := 1#32
  let v3961 : BitVec 32 := Scalar.muli v24 c1_i32_3995
  let v3962 : BitVec 32 := Scalar.addi c0_i32_3996 v3961
  v3962.toNat
def k0_dev190 (d0 : Dev nD) : Nat :=
  let c0_i32_3999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3998 : BitVec 32 := 1#32
  let v3963 : BitVec 32 := Scalar.muli v13 c1_i32_3998
  let v3964 : BitVec 32 := Scalar.addi c0_i32_3999 v3963
  v3964.toNat
def k0_dev191 (d0 : Dev nD) : Nat :=
  let c0_i32_4008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4007 : BitVec 32 := 1#32
  let v3965 : BitVec 32 := Scalar.muli v13 c1_i32_4007
  let v3966 : BitVec 32 := Scalar.addi c0_i32_4008 v3965
  v3966.toNat
def k0_dev192 (d0 : Dev nD) : Nat :=
  let c0_i32_4015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4014 : BitVec 32 := 1#32
  let v3973 : BitVec 32 := Scalar.muli v24 c1_i32_4014
  let v3974 : BitVec 32 := Scalar.addi c0_i32_4015 v3973
  v3974.toNat
def k0_dev193 (d0 : Dev nD) : Nat :=
  let c0_i32_4077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4076 : BitVec 32 := 1#32
  let v4040 : BitVec 32 := Scalar.muli v24 c1_i32_4076
  let v4041 : BitVec 32 := Scalar.addi c0_i32_4077 v4040
  v4041.toNat
def k0_dev194 (d0 : Dev nD) : Nat :=
  let c0_i32_4080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4079 : BitVec 32 := 1#32
  let v4042 : BitVec 32 := Scalar.muli v13 c1_i32_4079
  let v4043 : BitVec 32 := Scalar.addi c0_i32_4080 v4042
  v4043.toNat
def k0_dev195 (d0 : Dev nD) : Nat :=
  let c0_i32_4089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4088 : BitVec 32 := 1#32
  let v4044 : BitVec 32 := Scalar.muli v13 c1_i32_4088
  let v4045 : BitVec 32 := Scalar.addi c0_i32_4089 v4044
  v4045.toNat
def k0_dev196 (d0 : Dev nD) : Nat :=
  let c0_i32_4096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4095 : BitVec 32 := 1#32
  let v4052 : BitVec 32 := Scalar.muli v24 c1_i32_4095
  let v4053 : BitVec 32 := Scalar.addi c0_i32_4096 v4052
  v4053.toNat
def k0_dev197 (d0 : Dev nD) : Nat :=
  let c0_i32_4158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4157 : BitVec 32 := 1#32
  let v4119 : BitVec 32 := Scalar.muli v24 c1_i32_4157
  let v4120 : BitVec 32 := Scalar.addi c0_i32_4158 v4119
  v4120.toNat
def k0_dev198 (d0 : Dev nD) : Nat :=
  let c0_i32_4161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4160 : BitVec 32 := 1#32
  let v4121 : BitVec 32 := Scalar.muli v13 c1_i32_4160
  let v4122 : BitVec 32 := Scalar.addi c0_i32_4161 v4121
  v4122.toNat
def k0_dev199 (d0 : Dev nD) : Nat :=
  let c0_i32_4170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4169 : BitVec 32 := 1#32
  let v4123 : BitVec 32 := Scalar.muli v13 c1_i32_4169
  let v4124 : BitVec 32 := Scalar.addi c0_i32_4170 v4123
  v4124.toNat
def k0_dev200 (d0 : Dev nD) : Nat :=
  let c0_i32_4177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4176 : BitVec 32 := 1#32
  let v4131 : BitVec 32 := Scalar.muli v24 c1_i32_4176
  let v4132 : BitVec 32 := Scalar.addi c0_i32_4177 v4131
  v4132.toNat
def k0_dev201 (d0 : Dev nD) : Nat :=
  let c0_i32_4239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4238 : BitVec 32 := 1#32
  let v4198 : BitVec 32 := Scalar.muli v24 c1_i32_4238
  let v4199 : BitVec 32 := Scalar.addi c0_i32_4239 v4198
  v4199.toNat
def k0_dev202 (d0 : Dev nD) : Nat :=
  let c0_i32_4242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4241 : BitVec 32 := 1#32
  let v4200 : BitVec 32 := Scalar.muli v13 c1_i32_4241
  let v4201 : BitVec 32 := Scalar.addi c0_i32_4242 v4200
  v4201.toNat
def k0_dev203 (d0 : Dev nD) : Nat :=
  let c0_i32_4251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4250 : BitVec 32 := 1#32
  let v4202 : BitVec 32 := Scalar.muli v13 c1_i32_4250
  let v4203 : BitVec 32 := Scalar.addi c0_i32_4251 v4202
  v4203.toNat
def k0_dev204 (d0 : Dev nD) : Nat :=
  let c0_i32_4258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4257 : BitVec 32 := 1#32
  let v4210 : BitVec 32 := Scalar.muli v24 c1_i32_4257
  let v4211 : BitVec 32 := Scalar.addi c0_i32_4258 v4210
  v4211.toNat
def k0_dev205 (d0 : Dev nD) : Nat :=
  let c0_i32_4320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4319 : BitVec 32 := 1#32
  let v4277 : BitVec 32 := Scalar.muli v24 c1_i32_4319
  let v4278 : BitVec 32 := Scalar.addi c0_i32_4320 v4277
  v4278.toNat
def k0_dev206 (d0 : Dev nD) : Nat :=
  let c0_i32_4323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4322 : BitVec 32 := 1#32
  let v4279 : BitVec 32 := Scalar.muli v13 c1_i32_4322
  let v4280 : BitVec 32 := Scalar.addi c0_i32_4323 v4279
  v4280.toNat
def k0_dev207 (d0 : Dev nD) : Nat :=
  let c0_i32_4332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4331 : BitVec 32 := 1#32
  let v4281 : BitVec 32 := Scalar.muli v13 c1_i32_4331
  let v4282 : BitVec 32 := Scalar.addi c0_i32_4332 v4281
  v4282.toNat
def k0_dev208 (d0 : Dev nD) : Nat :=
  let c0_i32_4339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4338 : BitVec 32 := 1#32
  let v4289 : BitVec 32 := Scalar.muli v24 c1_i32_4338
  let v4290 : BitVec 32 := Scalar.addi c0_i32_4339 v4289
  v4290.toNat
def k0_dev209 (d0 : Dev nD) : Nat :=
  let c0_i32_4401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4400 : BitVec 32 := 1#32
  let v4356 : BitVec 32 := Scalar.muli v24 c1_i32_4400
  let v4357 : BitVec 32 := Scalar.addi c0_i32_4401 v4356
  v4357.toNat
def k0_dev210 (d0 : Dev nD) : Nat :=
  let c0_i32_4404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4403 : BitVec 32 := 1#32
  let v4358 : BitVec 32 := Scalar.muli v13 c1_i32_4403
  let v4359 : BitVec 32 := Scalar.addi c0_i32_4404 v4358
  v4359.toNat
def k0_dev211 (d0 : Dev nD) : Nat :=
  let c0_i32_4413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4412 : BitVec 32 := 1#32
  let v4360 : BitVec 32 := Scalar.muli v13 c1_i32_4412
  let v4361 : BitVec 32 := Scalar.addi c0_i32_4413 v4360
  v4361.toNat
def k0_dev212 (d0 : Dev nD) : Nat :=
  let c0_i32_4420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4419 : BitVec 32 := 1#32
  let v4368 : BitVec 32 := Scalar.muli v24 c1_i32_4419
  let v4369 : BitVec 32 := Scalar.addi c0_i32_4420 v4368
  v4369.toNat
def k0_dev213 (d0 : Dev nD) : Nat :=
  let c0_i32_4482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4481 : BitVec 32 := 1#32
  let v4435 : BitVec 32 := Scalar.muli v24 c1_i32_4481
  let v4436 : BitVec 32 := Scalar.addi c0_i32_4482 v4435
  v4436.toNat
def k0_dev214 (d0 : Dev nD) : Nat :=
  let c0_i32_4485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4484 : BitVec 32 := 1#32
  let v4437 : BitVec 32 := Scalar.muli v13 c1_i32_4484
  let v4438 : BitVec 32 := Scalar.addi c0_i32_4485 v4437
  v4438.toNat
def k0_dev215 (d0 : Dev nD) : Nat :=
  let c0_i32_4494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4493 : BitVec 32 := 1#32
  let v4439 : BitVec 32 := Scalar.muli v13 c1_i32_4493
  let v4440 : BitVec 32 := Scalar.addi c0_i32_4494 v4439
  v4440.toNat
def k0_dev216 (d0 : Dev nD) : Nat :=
  let c0_i32_4501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4500 : BitVec 32 := 1#32
  let v4447 : BitVec 32 := Scalar.muli v24 c1_i32_4500
  let v4448 : BitVec 32 := Scalar.addi c0_i32_4501 v4447
  v4448.toNat
def k0_dev217 (d0 : Dev nD) : Nat :=
  let c0_i32_4563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4562 : BitVec 32 := 1#32
  let v4514 : BitVec 32 := Scalar.muli v24 c1_i32_4562
  let v4515 : BitVec 32 := Scalar.addi c0_i32_4563 v4514
  v4515.toNat
def k0_dev218 (d0 : Dev nD) : Nat :=
  let c0_i32_4566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4565 : BitVec 32 := 1#32
  let v4516 : BitVec 32 := Scalar.muli v13 c1_i32_4565
  let v4517 : BitVec 32 := Scalar.addi c0_i32_4566 v4516
  v4517.toNat
def k0_dev219 (d0 : Dev nD) : Nat :=
  let c0_i32_4575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4574 : BitVec 32 := 1#32
  let v4518 : BitVec 32 := Scalar.muli v13 c1_i32_4574
  let v4519 : BitVec 32 := Scalar.addi c0_i32_4575 v4518
  v4519.toNat
def k0_dev220 (d0 : Dev nD) : Nat :=
  let c0_i32_4582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4581 : BitVec 32 := 1#32
  let v4526 : BitVec 32 := Scalar.muli v24 c1_i32_4581
  let v4527 : BitVec 32 := Scalar.addi c0_i32_4582 v4526
  v4527.toNat
def k0_dev221 (d0 : Dev nD) : Nat :=
  let c0_i32_4644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4643 : BitVec 32 := 1#32
  let v4593 : BitVec 32 := Scalar.muli v24 c1_i32_4643
  let v4594 : BitVec 32 := Scalar.addi c0_i32_4644 v4593
  v4594.toNat
def k0_dev222 (d0 : Dev nD) : Nat :=
  let c0_i32_4647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4646 : BitVec 32 := 1#32
  let v4595 : BitVec 32 := Scalar.muli v13 c1_i32_4646
  let v4596 : BitVec 32 := Scalar.addi c0_i32_4647 v4595
  v4596.toNat
def k0_dev223 (d0 : Dev nD) : Nat :=
  let c0_i32_4656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4655 : BitVec 32 := 1#32
  let v4597 : BitVec 32 := Scalar.muli v13 c1_i32_4655
  let v4598 : BitVec 32 := Scalar.addi c0_i32_4656 v4597
  v4598.toNat
def k0_dev224 (d0 : Dev nD) : Nat :=
  let c0_i32_4663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4662 : BitVec 32 := 1#32
  let v4605 : BitVec 32 := Scalar.muli v24 c1_i32_4662
  let v4606 : BitVec 32 := Scalar.addi c0_i32_4663 v4605
  v4606.toNat
def k0_dev225 (d0 : Dev nD) : Nat :=
  let c0_i32_4725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4724 : BitVec 32 := 1#32
  let v4672 : BitVec 32 := Scalar.muli v24 c1_i32_4724
  let v4673 : BitVec 32 := Scalar.addi c0_i32_4725 v4672
  v4673.toNat
def k0_dev226 (d0 : Dev nD) : Nat :=
  let c0_i32_4728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4727 : BitVec 32 := 1#32
  let v4674 : BitVec 32 := Scalar.muli v13 c1_i32_4727
  let v4675 : BitVec 32 := Scalar.addi c0_i32_4728 v4674
  v4675.toNat
def k0_dev227 (d0 : Dev nD) : Nat :=
  let c0_i32_4737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4736 : BitVec 32 := 1#32
  let v4676 : BitVec 32 := Scalar.muli v13 c1_i32_4736
  let v4677 : BitVec 32 := Scalar.addi c0_i32_4737 v4676
  v4677.toNat
def k0_dev228 (d0 : Dev nD) : Nat :=
  let c0_i32_4744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4743 : BitVec 32 := 1#32
  let v4684 : BitVec 32 := Scalar.muli v24 c1_i32_4743
  let v4685 : BitVec 32 := Scalar.addi c0_i32_4744 v4684
  v4685.toNat
def k0_dev229 (d0 : Dev nD) : Nat :=
  let c0_i32_4806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4805 : BitVec 32 := 1#32
  let v4751 : BitVec 32 := Scalar.muli v24 c1_i32_4805
  let v4752 : BitVec 32 := Scalar.addi c0_i32_4806 v4751
  v4752.toNat
def k0_dev230 (d0 : Dev nD) : Nat :=
  let c0_i32_4809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4808 : BitVec 32 := 1#32
  let v4753 : BitVec 32 := Scalar.muli v13 c1_i32_4808
  let v4754 : BitVec 32 := Scalar.addi c0_i32_4809 v4753
  v4754.toNat
def k0_dev231 (d0 : Dev nD) : Nat :=
  let c0_i32_4818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4817 : BitVec 32 := 1#32
  let v4755 : BitVec 32 := Scalar.muli v13 c1_i32_4817
  let v4756 : BitVec 32 := Scalar.addi c0_i32_4818 v4755
  v4756.toNat
def k0_dev232 (d0 : Dev nD) : Nat :=
  let c0_i32_4825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4824 : BitVec 32 := 1#32
  let v4763 : BitVec 32 := Scalar.muli v24 c1_i32_4824
  let v4764 : BitVec 32 := Scalar.addi c0_i32_4825 v4763
  v4764.toNat
def k0_dev233 (d0 : Dev nD) : Nat :=
  let c0_i32_4887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4886 : BitVec 32 := 1#32
  let v4830 : BitVec 32 := Scalar.muli v24 c1_i32_4886
  let v4831 : BitVec 32 := Scalar.addi c0_i32_4887 v4830
  v4831.toNat
def k0_dev234 (d0 : Dev nD) : Nat :=
  let c0_i32_4890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4889 : BitVec 32 := 1#32
  let v4832 : BitVec 32 := Scalar.muli v13 c1_i32_4889
  let v4833 : BitVec 32 := Scalar.addi c0_i32_4890 v4832
  v4833.toNat
def k0_dev235 (d0 : Dev nD) : Nat :=
  let c0_i32_4899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4898 : BitVec 32 := 1#32
  let v4834 : BitVec 32 := Scalar.muli v13 c1_i32_4898
  let v4835 : BitVec 32 := Scalar.addi c0_i32_4899 v4834
  v4835.toNat
def k0_dev236 (d0 : Dev nD) : Nat :=
  let c0_i32_4906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4905 : BitVec 32 := 1#32
  let v4842 : BitVec 32 := Scalar.muli v24 c1_i32_4905
  let v4843 : BitVec 32 := Scalar.addi c0_i32_4906 v4842
  v4843.toNat
def k0_dev237 (d0 : Dev nD) : Nat :=
  let c0_i32_4968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4967 : BitVec 32 := 1#32
  let v4909 : BitVec 32 := Scalar.muli v24 c1_i32_4967
  let v4910 : BitVec 32 := Scalar.addi c0_i32_4968 v4909
  v4910.toNat
def k0_dev238 (d0 : Dev nD) : Nat :=
  let c0_i32_4971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4970 : BitVec 32 := 1#32
  let v4911 : BitVec 32 := Scalar.muli v13 c1_i32_4970
  let v4912 : BitVec 32 := Scalar.addi c0_i32_4971 v4911
  v4912.toNat
def k0_dev239 (d0 : Dev nD) : Nat :=
  let c0_i32_4980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4979 : BitVec 32 := 1#32
  let v4913 : BitVec 32 := Scalar.muli v13 c1_i32_4979
  let v4914 : BitVec 32 := Scalar.addi c0_i32_4980 v4913
  v4914.toNat
def k0_dev240 (d0 : Dev nD) : Nat :=
  let c0_i32_4987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4986 : BitVec 32 := 1#32
  let v4921 : BitVec 32 := Scalar.muli v24 c1_i32_4986
  let v4922 : BitVec 32 := Scalar.addi c0_i32_4987 v4921
  v4922.toNat
def k0_dev241 (d0 : Dev nD) : Nat :=
  let c0_i32_5049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5048 : BitVec 32 := 1#32
  let v4988 : BitVec 32 := Scalar.muli v24 c1_i32_5048
  let v4989 : BitVec 32 := Scalar.addi c0_i32_5049 v4988
  v4989.toNat
def k0_dev242 (d0 : Dev nD) : Nat :=
  let c0_i32_5052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5051 : BitVec 32 := 1#32
  let v4990 : BitVec 32 := Scalar.muli v13 c1_i32_5051
  let v4991 : BitVec 32 := Scalar.addi c0_i32_5052 v4990
  v4991.toNat
def k0_dev243 (d0 : Dev nD) : Nat :=
  let c0_i32_5061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5060 : BitVec 32 := 1#32
  let v4992 : BitVec 32 := Scalar.muli v13 c1_i32_5060
  let v4993 : BitVec 32 := Scalar.addi c0_i32_5061 v4992
  v4993.toNat
def k0_dev244 (d0 : Dev nD) : Nat :=
  let c0_i32_5068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5067 : BitVec 32 := 1#32
  let v5000 : BitVec 32 := Scalar.muli v24 c1_i32_5067
  let v5001 : BitVec 32 := Scalar.addi c0_i32_5068 v5000
  v5001.toNat
def k0_dev245 (d0 : Dev nD) : Nat :=
  let c0_i32_5136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5135 : BitVec 32 := 1#32
  let v5067 : BitVec 32 := Scalar.muli v13 c1_i32_5135
  let v5068 : BitVec 32 := Scalar.addi c0_i32_5136 v5067
  v5068.toNat
def k0_dev246 (d0 : Dev nD) : Nat :=
  let c0_i32_5143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5142 : BitVec 32 := 1#32
  let v5075 : BitVec 32 := Scalar.muli v24 c1_i32_5142
  let v5076 : BitVec 32 := Scalar.addi c0_i32_5143 v5075
  v5076.toNat
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Body.lean ====
/-
  The kernel's body as a program over the step number.

  The kernel is unrolled: sixty-two steps of a ring all-reduce in two directions. Here one step is written once, over the
  direction `d` (`false`: to the right neighbour, upper half chunks; `true`: to the left neighbour, lower half chunks), the
  landing slot `s` and the step number, and `body_eq` states that the unrolled body is the prologue followed by these steps.
-/
module

public import proofs.«01_k».proof.Proof.Gen.KernelIdeal
public import proofs.«01_k».proof.Proof.Gen.KernelIdeal.Points
public import Idealize.ShloMosaic.Lib.Pipeline.Regions

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## The buffers, the semaphores -/

/-- The array whose chunks are summed, and the result array. -/
abbrev pM : Memref sig .tc .hbm S4096x8192 .f32 := Memref.whole main_v1
abbrev oM : Memref sig .tc .hbm S4096x8192 .f32 := Memref.whole main_v2

/-- A direction's travelling chunk, its staging buffer for a chunk of the own array, its landing buffer of two slots. -/
abbrev accR (d : Bool) : Ref sig .tc := match d with | false => cc0_scratch0 | true => cc0_scratch1
def accM (d : Bool) : Memref sig .tc .vmem S64x8192 .f32 := match d with | false => Memref.whole cc0_scratch0 | true => Memref.whole cc0_scratch1
def stgM (d : Bool) : Memref sig .tc .vmem S64x8192 .f32 := match d with | false => Memref.whole cc0_scratch2 | true => Memref.whole cc0_scratch3
def lndM (d : Bool) : Memref sig .tc .vmem S2x64x8192 .f32 := match d with | false => Memref.whole cc0_scratch4 | true => Memref.whole cc0_scratch5

/-- A slot of a landing buffer: its corner, and the slot as a 64×8192 reference. -/
def slotOff (s : Bool) : Fin 3 → ℕ := match s with | false => ![0, 0, 0] | true => ![1, 0, 0]
theorem slotOff_inb (s : Bool) : ∀ a, slotOff s a + S1x64x8192.size a ≤ S2x64x8192.size a := by revert s; decide
abbrev slotRect (s : Bool) : Rect S2x64x8192 := Rect.unit (s := S2x64x8192) (slotOff s) S1x64x8192.size (slotOff_inb s)
def slotM (d s : Bool) : Memref sig .tc .vmem S64x8192 .f32 := ((lndM d).slice (slotRect s) (fun _ => rfl)).squeeze S64x8192 squeezes_S1x64x8192_S64x8192

/-- The semaphores of a direction: completion of a transfer at its sender and at its receiver by slot, the receiver's credit
    by slot, and the two local copies' completions. -/
def sendS (d s : Bool) : DmaSem sig := match d, s with | false, false => 0 | false, true => 1 | true, false => 4 | true, true => 5
def recvS (d s : Bool) : DmaSem sig := match d, s with | false, false => 2 | false, true => 3 | true, false => 6 | true, true => 7
def credS (d s : Bool) : Sem sig := match d, s with | false, false => 0 | false, true => 1 | true, false => 2 | true, true => 3
def cpiS (d : Bool) : DmaSem sig := match d with | false => 8 | true => 9
def cpoS (d : Bool) : DmaSem sig := match d with | false => 10 | true => 11

/-- The slot of step `g`. -/
def slotOf (g : ℕ) : Bool := Nat.beq (g % 2) 1

/-! ## Neighbours and chunks, as the kernel computes them -/

/-- The neighbour a direction sends to, and the one it receives from. -/
def toDev (d : Bool) (c : Dev nD) : Dev nD := match d with | false => ⟨k0_dev2 c, k0_dev2_lt c⟩ | true => ⟨k0_dev1 c, k0_dev1_lt c⟩

/-- The corners of the chunks: the own chunk; the chunk added at step `g`; the chunk complete after step 30; the chunk
    stored at gathering step `t`. -/
def ownOff (d : Bool) (c : Dev nD) : Fin 2 → ℕ := match d with | false => k0_off1 c | true => k0_off2 c
def addOff (d : Bool) (c : Dev nD) (g : ℕ) : Fin 2 → ℕ := match d with | false => k0_off3 c (BitVec.ofNat 32 (g % 31)) | true => k0_off4 c (BitVec.ofNat 32 (g % 31))
def sumOff (d : Bool) (c : Dev nD) : Fin 2 → ℕ := match d with | false => k0_off5 c | true => k0_off6 c
def putOff (d : Bool) (c : Dev nD) (t : ℕ) : Fin 2 → ℕ := match d with | false => k0_off7 c (BitVec.ofNat 32 (t % 31)) | true => k0_off8 c (BitVec.ofNat 32 (t % 31))

/-- A chunk with this corner lies within the array. -/
abbrev InB (off : Fin 2 → ℕ) : Prop := ∀ a, off a + S64x8192.size a ≤ S4096x8192.size a

theorem ownOff_inb (d : Bool) (c : Dev nD) : InB (ownOff d c) := by
  cases d; exacts [k0_off1_inb c, k0_off2_inb c]
theorem addOff_inb (d : Bool) (c : Dev nD) (g : ℕ) : InB (addOff d c g) := by
  cases d; exacts [k0_off3_inb c ⟨g % 31, Nat.mod_lt _ (by decide)⟩, k0_off4_inb c ⟨g % 31, Nat.mod_lt _ (by decide)⟩]
theorem sumOff_inb (d : Bool) (c : Dev nD) : InB (sumOff d c) := by
  cases d; exacts [k0_off5_inb c, k0_off6_inb c]
theorem putOff_inb (d : Bool) (c : Dev nD) (t : ℕ) : InB (putOff d c t) := by
  cases d; exacts [k0_off7_inb c ⟨t % 31, Nat.mod_lt _ (by decide)⟩, k0_off8_inb c ⟨t % 31, Nat.mod_lt _ (by decide)⟩]

/-- A chunk of an array: 64 whole rows from a corner. -/
abbrev chunkM (M : Memref sig .tc .hbm S4096x8192 .f32) (off : Fin 2 → ℕ) (h : InB off) :
    Memref sig .tc .hbm S64x8192 .f32 := M.slice (Rect.unit (s := S4096x8192) off S64x8192.size h) (fun _ => rfl)

theorem accM_whole (d : Bool) : (accM d).IsWhole := by cases d <;> exact Memref.isWhole_whole _
theorem stgM_whole (d : Bool) : (stgM d).IsWhole := by cases d <;> exact Memref.isWhole_whole _
theorem slotM_word (d s : Bool) : (slotM d s).view.WordExact := by
  cases d <;> exact (View.wordExact_bits rfl).reshape _ _
theorem chunkM_word (M : Memref sig .tc .hbm S4096x8192 .f32) (off : Fin 2 → ℕ) (h : InB off) : (chunkM M off h).view.WordExact := View.wordExact_bits rfl

/-! ## The blocks of a step -/

/-- A program of a tensor core that returns nothing. -/
abbrev KProg (F : FTy → Type) [FloatOps F] := Prog (TpuEff nD τ sig (Elt F) Λ₀ .tc) PUnit

/-- Take one unit of credit of each direction's slot `s`. -/
def waitCredit (s : Bool) (k : KProg F) : KProg F :=
  .op (.semWait (credS false s) 1) fun _ => .op (.semWait (credS true s) 1) fun _ => k

/-- Start direction `d`'s transfer of the travelling chunk into the neighbour's slot `s`. -/
def startSend (d s : Bool) (c : Dev nD) (k : KProg F) : KProg F :=
  .op (.enqueueDma (accM d) (.remote (Dev.tc (toDev d c)) (slotM d s) (.dma (sendS d s)) (by cases d <;> rfl)) (.dma (recvS d s)) (accM_whole d).wordExact (slotM_word d s)
    (by cases d <;> exact ⟨⟨rfl, Or.inl rfl⟩, trivial⟩)) fun _ => k

/-- Wait for direction `d`'s transfers of slot `s`: the outgoing one, then the incoming one. -/
def waitSend (d s : Bool) (k : KProg F) : KProg F :=
  .op (.waitDma2 (sendS d s) (slotM d s) (accM d) (slotM_word d s) (accM_whole d).wordExact) fun _ =>
  .op (.waitDma2 (recvS d s) (accM d) (slotM d s) (accM_whole d).wordExact (slotM_word d s)) fun _ => k

/-- Start, and wait for, the copy of a chunk of the own array. -/
def startFetch (d : Bool) (dst : Memref sig .tc .vmem S64x8192 .f32) (hd : dst.view.WordExact) (off : Fin 2 → ℕ) (h : InB off) (k : KProg F) : KProg F :=
  .op (.enqueueDma (chunkM pM off h) (.here dst) (.dma (cpiS d)) (chunkM_word pM off h) hd ⟨Or.inl rfl, trivial⟩) fun _ => k
def waitFetch (d : Bool) (dst : Memref sig .tc .vmem S64x8192 .f32) (hd : dst.view.WordExact) (off : Fin 2 → ℕ) (h : InB off) (k : KProg F) : KProg F :=
  .op (.waitDma2 (cpiS d) (chunkM pM off h) dst (chunkM_word pM off h) hd) fun _ => k

/-- Start, and wait for, the copy of the travelling chunk into the result array. -/
def startPut (d : Bool) (off : Fin 2 → ℕ) (h : InB off) (k : KProg F) : KProg F :=
  .op (.enqueueDma (accM d) (.here (chunkM oM off h)) (.dma (cpoS d)) (accM_whole d).wordExact (chunkM_word oM off h) ⟨Or.inl rfl, trivial⟩) fun _ => k
def waitPut (d : Bool) (off : Fin 2 → ℕ) (h : InB off) (k : KProg F) : KProg F :=
  .op (.waitDma2 (cpoS d) (accM d) (chunkM oM off h) (accM_whole d).wordExact (chunkM_word oM off h)) fun _ => k

abbrev wholeRect : Rect S64x8192 := Rect.unit (s := S64x8192) ![0, 0] S64x8192.size inb_S64x8192_S64x8192_0_0

/-- What the kernel stores as the new travelling chunk: what landed, and what landed added to the staged chunk. -/
def takeVal (v : Vec F S1x64x8192 .f32) : FVec F S64x8192 .f32 :=
  shapeCast S64x8192 (shapeCast S64x8192 v shapeCasts_S1x64x8192_S64x8192) shapeCasts_S64x8192_S64x8192
def addVal (w : Vec F S64x8192 .f32) (v : Vec F S1x64x8192 .f32) : FVec F S64x8192 .f32 :=
  shapeCast S64x8192 (addf w (shapeCast S64x8192 v shapeCasts_S1x64x8192_S64x8192)) shapeCasts_S64x8192_S64x8192

/-- The travelling chunk becomes the staged chunk plus what landed in slot `s`. -/
def addStore (d s : Bool) (k : KProg F) : KProg F :=
  .op (.load (stgM d) wholeRect.toLoadRect (View.loadsAt_vmem h_S64x8192)) fun w =>
  .op (.load (lndM d) (slotRect s).toLoadRect (View.loadsAt_vmem h_S1x64x8192)) fun v =>
  .op (.load (accM d) wholeRect.toLoadRect (View.loadsAt_vmem h_S64x8192)) fun _ =>
  .op (.store (accM d) wholeRect (addVal w v) Finset.univ (View.stores_vmem_bits_univ h_S64x8192 rfl) (.inl rfl)) fun _ => k

/-- The travelling chunk becomes what landed in slot `s`. -/
def takeStore (d s : Bool) (k : KProg F) : KProg F :=
  .op (.load (lndM d) (slotRect s).toLoadRect (View.loadsAt_vmem h_S1x64x8192)) fun v =>
  .op (.load (accM d) wholeRect.toLoadRect (View.loadsAt_vmem h_S64x8192)) fun _ =>
  .op (.store (accM d) wholeRect (takeVal v) Finset.univ (View.stores_vmem_bits_univ h_S64x8192 rfl) (.inl rfl)) fun _ => k

/-- Credit the two senders' slot `s`. -/
def giveCredit (s : Bool) (c : Dev nD) (k : KProg F) : KProg F :=
  .op (.semSignal (Dev.tc (toDev true c)) (credS false s) 1) fun _ => .op (.semSignal (Dev.tc (toDev false c)) (credS true s) 1) fun _ => k

/-! ## The steps -/

/-- The travelling chunks into the result array at two corners. -/
def put2 (oa ob : Fin 2 → ℕ) (ha : InB oa) (hb : InB ob) (k : KProg F) : KProg F :=
  startPut false oa ha (startPut true ob hb (waitPut false oa ha (waitPut true ob hb k)))

/-- A reduce-scatter step after its credit wait and before its credit signals. -/
def coreRS (g : ℕ) (s : Bool) (c : Dev nD) (k : KProg F) : KProg F :=
  startSend false s c <| startSend true s c <|
  startFetch false (stgM false) (stgM_whole false).wordExact (addOff false c g) (addOff_inb false c g) <|
  startFetch true (stgM true) (stgM_whole true).wordExact (addOff true c g) (addOff_inb true c g) <|
  waitSend false s <| waitSend true s <|
  waitFetch false (stgM false) (stgM_whole false).wordExact (addOff false c g) (addOff_inb false c g) <|
  waitFetch true (stgM true) (stgM_whole true).wordExact (addOff true c g) (addOff_inb true c g) <|
  addStore false s <| addStore true s k

/-- A gathering step `t` after its credit wait and before its credit signals. -/
def coreAG (t : ℕ) (s : Bool) (c : Dev nD) (k : KProg F) : KProg F :=
  startSend false s c <| startSend true s c <| waitSend false s <| waitSend true s <|
  takeStore false s <| takeStore true s <|
  put2 (putOff false c t) (putOff true c t) (putOff_inb false c t) (putOff_inb true c t) k

/-- Step `g` of the sixty-two. -/
def step (g : ℕ) (c : Dev nD) (k : KProg F) : KProg F :=
  let s := slotOf g
  (if 2 ≤ g then waitCredit s else id) <|
  (if g < 31 then coreRS g s c else coreAG (g - 31) s c) <|
  (if g < 60 then giveCredit s c else id) <|
  (if g = 30 then put2 (sumOff false c) (sumOff true c) (sumOff_inb false c) (sumOff_inb true c) else id) k

/-- `n` steps from step `g`. -/
def steps (c : Dev nD) : ℕ → ℕ → KProg F
  | 0, _ => .ret ⟨⟩
  | n + 1, g => step g c (steps c n (g + 1))

/-- The kernel: the entry handshake, the own chunks fetched, the steps. -/
def body : KProg F :=
  .op .deviceId fun c =>
  .op (.semSignal (Dev.tc (toDev true c)) barrier0 1) fun _ =>
  .op (.semSignal (Dev.tc (toDev false c)) barrier0 1) fun _ =>
  .op (.semWait barrier0 2) fun _ =>
  startFetch false (accM false) (accM_whole false).wordExact (ownOff false c) (ownOff_inb false c) <|
  startFetch true (accM true) (accM_whole true).wordExact (ownOff true c) (ownOff_inb true c) <|
  waitFetch false (accM false) (accM_whole false).wordExact (ownOff false c) (ownOff_inb false c) <|
  waitFetch true (accM true) (accM_whole true).wordExact (ownOff true c) (ownOff_inb true c) <|
  steps c 62 0

set_option maxRecDepth 100000 in
/-- The kernel's body, as printed, is `body`. -/
theorem body_eq (t : Fin cfg0.N) : bodyAt0 (F := F) t = body := by
  chain_rfl

end Cert.AllReduce

end
-- ==== Proof.Values.lean ====
/-
  Where the chunks lie and what travels.

  The array is cut into 32 blocks of 128 rows; a block's upper 64 rows are direction `false`'s chunk of that number, its lower
  64 rows direction `true`'s. After `g` steps a device holds, per direction, the chunk numbered by the device `g` places up the
  direction's stream (`src d g c`); `trav` is what it holds there, `total` a chunk's complete sum, `outF` the result array.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## The ring -/

/-- The device a direction receives from. -/
def fromDev (d : Bool) (c : Dev nD) : Dev nD := toDev (!d) c

theorem toDev_val (d : Bool) (c : Dev nD) : (toDev d c).val = (c.val + bif d then 31 else 1) % 32 := by
  revert d c; decide +kernel
theorem from_to (d : Bool) (c : Dev nD) : fromDev d (toDev d c) = c := by revert d c; decide +kernel
theorem to_from (d : Bool) (c : Dev nD) : toDev d (fromDev d c) = c := by revert d c; decide +kernel
theorem fromDev_val (d : Bool) (c : Dev nD) : (fromDev d c).val = (c.val + bif d then 1 else 31) % 32 := by
  revert d c; decide +kernel

/-- The device `n` places up direction `d`'s stream from `c`. -/
def src (d : Bool) : ℕ → Dev nD → Dev nD
  | 0, c => c
  | n + 1, c => src d n (fromDev d c)

theorem src_val (d : Bool) (n : ℕ) (c : Dev nD) : (src d n c).val = (c.val + n * bif d then 1 else 31) % 32 := by
  induction n generalizing c with
  | zero => show c.val = _; rw [Nat.zero_mul, Nat.add_zero, Nat.mod_eq_of_lt c.isLt]
  | succ n ih => show (src d n (fromDev d c)).val = _; rw [ih, fromDev_val]; cases d <;> simp only [cond_true, cond_false] <;> omega

theorem src_succ (d : Bool) (n : ℕ) (c : Dev nD) : src d (n + 1) c = src d n (fromDev d c) := rfl
theorem src_add (d : Bool) (m n : ℕ) (c : Dev nD) : src d m (src d n c) = src d (m + n) c := by
  apply Fin.ext; rw [src_val, src_val, src_val]; cases d <;> simp only [cond_true, cond_false] <;> omega
theorem src_mod (d : Bool) (n : ℕ) (c : Dev nD) : src d (n + 32) c = src d n c := by
  apply Fin.ext; rw [src_val, src_val]; cases d <;> simp only [cond_true, cond_false] <;> omega
theorem src_inj (d : Bool) (c : Dev nD) {m n : ℕ} (hm : m < 32) (hn : n < 32) (h : src d m c = src d n c) : m = n := by
  have h' := congrArg Fin.val h
  rw [src_val, src_val] at h'
  cases d <;> simp only [cond_true, cond_false] at h' <;> omega
/-- Every device is within 32 places up the stream. -/
theorem src_surj (d : Bool) (c k : Dev nD) : ∃ n < 32, src d n c = k := by
  refine ⟨(bif d then k.val + 32 - c.val else c.val + 32 - k.val) % 32, Nat.mod_lt _ (by decide), Fin.ext ?_⟩
  have hc : c.val < 32 := c.isLt
  have hk : k.val < 32 := k.isLt
  rw [src_val]; cases d <;> simp only [cond_true, cond_false] <;> omega

/-! ## The chunks -/

/-- The corner of direction `d`'s chunk `k`. -/
def off (d : Bool) (k : Dev nD) : Fin 2 → ℕ := ![128 * k.val + bif d then 64 else 0, 0]
theorem off_inb (d : Bool) (k : Dev nD) : InB (off d k) := by revert d k; decide +kernel

theorem ownOff_eq (d : Bool) (c : Dev nD) : ownOff d c = off d c := by revert d c; decide +kernel
theorem addOff_eq (d : Bool) (c : Dev nD) (g : ℕ) (hg : g < 31) : addOff d c g = off d (src d (g + 1) c) := by
  have h : ∀ (d : Bool) (c : Dev nD) (g : Fin 31), addOff d c g.val = off d (src d (g.val + 1) c) := by decide +kernel
  exact h d c ⟨g, hg⟩
theorem sumOff_eq (d : Bool) (c : Dev nD) : sumOff d c = off d (src d 31 c) := by revert d c; decide +kernel
theorem putOff_eq (d : Bool) (c : Dev nD) (t : ℕ) (ht : t < 31) : putOff d c t = off d (src d (t + 32) c) := by
  have h : ∀ (d : Bool) (c : Dev nD) (t : Fin 31), putOff d c t.val = off d (src d (t.val + 32) c) := by decide +kernel
  exact h d c ⟨t, ht⟩

/-- The rows of a direction's chunks. -/
abbrev dirSet (d : Bool) : Finset S4096x8192.Idx := Finset.univ.filter fun i => ((i 0).val / 64 % 2 == 1) = d

/-- Chunk `k` of direction `d` as a set of elements. -/
abbrev chunkSet (d : Bool) (k : Dev nD) : Finset S4096x8192.Idx := (Rect.unit (s := S4096x8192) (off d k) S64x8192.size (off_inb d k)).set

theorem mem_chunkSet (d : Bool) (k : Dev nD) (i : S4096x8192.Idx) :
    i ∈ chunkSet d k ↔ 128 * k.val + (bif d then 64 else 0) ≤ (i 0).val ∧ (i 0).val < 128 * k.val + (bif d then 64 else 0) + 64 := by
  unfold chunkSet
  rw [Rect.mem_set_unit]
  constructor
  · intro h; exact h 0
  · intro h a
    match a with
    | 0 => exact h
    | 1 => exact ⟨Nat.zero_le _, by have := (i 1).isLt; simpa [off] using this⟩

theorem chunkSet_subset (d : Bool) (k : Dev nD) : chunkSet d k ⊆ dirSet d := fun i hi => by
  rw [mem_chunkSet] at hi
  rw [Finset.mem_filter]
  refine ⟨Finset.mem_univ _, ?_⟩
  cases d <;> simp only [cond_true, cond_false] at hi <;> simp only [beq_iff_eq, beq_eq_false_iff_ne, ne_eq] <;> omega
theorem chunkSet_disjoint (d : Bool) {j k : Dev nD} (h : j ≠ k) : Disjoint (chunkSet d j) (chunkSet d k) :=
  Finset.disjoint_left.mpr fun i hi hk => h (Fin.ext (by
    rw [mem_chunkSet] at hi hk; omega))
theorem mem_own_chunk (d : Bool) (i : S4096x8192.Idx) (hi : i ∈ dirSet d) :
    i ∈ chunkSet d ⟨(i 0).val / 128, by have := (i 0).isLt; simp at this; show _ < 32; omega⟩ := by
  rw [mem_chunkSet]
  have h := (Finset.mem_filter.mp hi).2
  cases d <;> simp only [beq_iff_eq, beq_eq_false_iff_ne, ne_eq] at h <;> simp only [cond_true, cond_false] <;> omega
theorem dirSet_compl : (Finset.univ : Finset S4096x8192.Idx) \ dirSet false = dirSet true := by
  ext i
  simp

/-! ## The values -/

abbrev Vec64 (F : FTy → Type) [FloatOps F] : Type := S64x8192.Idx → Elt F .f32
abbrev Arr (F : FTy → Type) [FloatOps F] : Type := S4096x8192.Idx → Elt F .f32

/-- Chunk `k` of an array. -/
def chunkOf (d : Bool) (k : Dev nD) (f : Arr F) : Vec64 F := fun i => f ((Rect.unit (s := S4096x8192) (off d k) S64x8192.size (off_inb d k)).emb i)

variable (p : Dev nD → Arr F)

/-- What device `c` holds of direction `d` after `g` steps. -/
def trav (d : Bool) : ℕ → Dev nD → Vec64 F
  | 0, c => chunkOf d c (p c)
  | g + 1, c => if g < 31 then addf (chunkOf d (src d (g + 1) c) (p c)) (trav d g (fromDev d c)) else trav d g (fromDev d c)

theorem trav_zero (d : Bool) (c : Dev nD) : trav p d 0 c = chunkOf d c (p c) := rfl
theorem trav_add (d : Bool) (g : ℕ) (c : Dev nD) (hg : g < 31) :
    trav p d (g + 1) c = addf (chunkOf d (src d (g + 1) c) (p c)) (trav p d g (fromDev d c)) := if_pos hg
theorem trav_take (d : Bool) (g : ℕ) (c : Dev nD) (hg : 31 ≤ g) : trav p d (g + 1) c = trav p d g (fromDev d c) :=
  if_neg (Nat.not_lt.mpr hg)

/-- The complete chunk `k`: what the device that adds last to it holds after the last adding step. -/
def total (d : Bool) (k : Dev nD) : Vec64 F := trav p d 31 (src d 1 k)

theorem trav_total (d : Bool) (n : ℕ) (c : Dev nD) : trav p d (31 + n) c = total p d (src d (31 + n) c) := by
  induction n generalizing c with
  | zero => unfold total; rw [src_add, show 1 + (31 + 0) = 0 + 32 from rfl, src_mod]; rfl
  | succ n ih => rw [← Nat.add_assoc, trav_take p d _ c (by omega), ih, src_succ]

/-- The result array: every chunk its total. -/
def outF : Arr F := fun i =>
  total p ((i 0).val / 64 % 2 == 1) ⟨(i 0).val / 128, by have := (i 0).isLt; simp at this; show _ < 32; omega⟩
    fun a => match a with
      | 0 => ⟨(i 0).val % 64, Nat.mod_lt _ (by decide)⟩
      | 1 => i 1

/-- An array agrees with the result on a direction's rows if its chunks are the totals. -/
theorem eq_outF (d : Bool) (f : Arr F) (h : ∀ k, chunkOf d k f = total p d k) (i : S4096x8192.Idx) (hi : i ∈ dirSet d) : f i = outF p i := by
  have h2 := (Finset.mem_filter.mp hi).2
  unfold outF
  rw [h2, ← h]
  unfold chunkOf
  congr 1
  have hm := mem_own_chunk d i hi
  rw [mem_chunkSet] at hm
  have hm : 128 * ((i 0).val / 128) + (bif d then 64 else 0) ≤ (i 0).val ∧ (i 0).val < 128 * ((i 0).val / 128) + (bif d then 64 else 0) + 64 := hm
  funext a
  match a with
  | 0 => apply Fin.ext; rw [Rect.emb_apply]; simp [off]; cases d <;> simp only [cond_true, cond_false] at hm ⊢ <;> omega
  | 1 => apply Fin.ext; rw [Rect.emb_apply]; simp [off]

end Cert.AllReduce
-- ==== Proof.Sched.lean ====
/-
  The protocol: which cells are signalled in which rounds, what each unit hands over, and what each core owes.

  Per device: the barrier cell, and per direction and landing slot a send cell (a transfer has left), a receive cell (a
  transfer has landed) and a credit cell (the receiver has emptied the slot). Round `r` of a slot's cells belongs to step
  `2 r + s`.
-/
module

public import proofs.«01_k».proof.Proof.Values
public import Idealize.ShloMosaic.Lib.Rounds
public import Idealize.ShloMosaic.Lib.Transfers
public import Idealize.ShloMosaic.Lib.Tactic
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The rounds' copy: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig ℕ (Elt F) ℕ UU ℕ) := countersEmb

/-- Device `c` holds share `q` of a reference's elements, which read `v`. -/
def holds {sp : Space} {s : Shape} {e : EltTy} (M : Memref sig .tc sp s e) (c : Dev nD) (q : PosShare TreeShare) (v : s.Idx → Elt F e) : sProp 𝕄 :=
  iprop(∃ f : Buf (Elt F) (M.view.loc (c : Thread nD τ)), (M.view.loc (c : Thread nD τ) ↦[M.view.set]{q} f) ∗ ⌜M.view.read (Elt F) f = v⌝)
/-- Device `c` holds a reference's elements whole. -/
def owns {sp : Space} {s : Shape} {e : EltTy} (M : Memref sig .tc sp s e) (c : Dev nD) : sProp 𝕄 :=
  iprop(∃ f : Buf (Elt F) (M.view.loc (c : Thread nD τ)), M.view.loc (c : Thread nD τ) ↦[M.view.set]{fullShare} f)

theorem holds_owns {sp : Space} {s : Shape} {e : EltTy} (M : Memref sig .tc sp s e) (c : Dev nD) (v : s.Idx → Elt F e) :
    (holds M c fullShare v : sProp 𝕄) ⊢ owns M c := by
  unfold holds owns
  iintro ⟨%f, H, -⟩
  iexists f; iexact H

instance holds_storable {sp : Space} {s : Shape} {e : EltTy} (M : Memref sig .tc sp s e) (c : Dev nD) (q) (v : s.Idx → Elt F e) :
    BI.Storable (upEmb : UEmb _ 𝕄) (holds M c q v) := by unfold holds; infer_instance
instance owns_storable {sp : Space} {s : Shape} {e : EltTy} (M : Memref sig .tc sp s e) (c : Dev nD) :
    BI.Storable (upEmb : UEmb _ 𝕄) (owns (F := F) M c) := by unfold owns; infer_instance

/-! ## The cells -/

abbrev barCell (c : Dev nD) : GSem nD τ sig := ((c : Thread nD τ), .reg barrier0)
abbrev sendCell (d s : Bool) (c : Dev nD) : GSem nD τ sig := ((c : Thread nD τ), .dma (sendS d s))
abbrev recvCell (d s : Bool) (c : Dev nD) : GSem nD τ sig := ((c : Thread nD τ), .dma (recvS d s))
abbrev credCell (d s : Bool) (c : Dev nD) : GSem nD τ sig := ((c : Thread nD τ), .reg (credS d s))

/-- What a semaphore is for. -/
inductive Role where
  | bar | cred (d s : Bool) | send (d s : Bool) | recv (d s : Bool) | copy
deriving DecidableEq

def role : SemLoc sig → Role
  | .reg i => if i.val < 4 then .cred (i.val / 2 == 1) (i.val % 2 == 1) else .bar
  | .dma i => if i.val < 8 then (if i.val / 2 % 2 = 0 then .send (i.val / 4 == 1) (i.val % 2 == 1) else .recv (i.val / 4 == 1) (i.val % 2 == 1)) else .copy

theorem role_bar : role (.reg barrier0) = .bar := rfl
theorem role_send (d s : Bool) : role (.dma (sendS d s)) = .send d s := by cases d <;> cases s <;> rfl
theorem role_recv (d s : Bool) : role (.dma (recvS d s)) = .recv d s := by cases d <;> cases s <;> rfl
theorem role_cred (d s : Bool) : role (.reg (credS d s)) = .cred d s := by cases d <;> cases s <;> rfl
theorem role_cpi (d : Bool) : role (.dma (cpiS d)) = .copy := by cases d <;> rfl
theorem role_cpo (d : Bool) : role (.dma (cpoS d)) = .copy := by cases d <;> rfl

/-- The units a transfer of a chunk credits. -/
def N : ℕ := (slotM false false).view.dmaCredit
theorem N_pos : 0 < N := View.dmaCredit_pos _ (by decide)
theorem N_slot (d s : Bool) : (slotM d s).view.dmaCredit = N := by cases d <;> cases s <;> rfl
theorem N_acc (d : Bool) : (accM d).view.dmaCredit = N := by cases d <;> rfl

/-! ## The schedule -/

variable (p : Dev nD → Arr F)

/-- Paid to device `c`'s barrier by the neighbour it sends direction `d` to: the neighbour's two slots, and that its receive
    cells are open. -/
def barPay (d : Bool) (c : Dev nD) : sProp 𝕄 :=
  iprop((owns (slotM d false) (toDev d c) ∗ reached ER (recvCell d false (toDev d c)) 0)
    ∗ (owns (slotM d true) (toDev d c) ∗ reached ER (recvCell d true (toDev d c)) 0))
/-- Paid to a credit cell: the neighbour's slot, emptied, its receive cell at the next round. -/
def credPay (d s : Bool) (c : Dev nD) (r : ℕ) : sProp 𝕄 :=
  iprop(owns (slotM d s) (toDev d c) ∗ reached ER (recvCell d s (toDev d c)) (r + 1))
/-- Paid to a send cell: the travelling chunk back. -/
def sendPay (d s : Bool) (c : Dev nD) (r : ℕ) : sProp 𝕄 := holds (accM d) c fullShare (trav p d (2 * r + s.toNat) c)
/-- Paid to a receive cell: the slot with what the sender held, and that the sender's credit cell is at this round. -/
def recvPay (d s : Bool) (c : Dev nD) (r : ℕ) : sProp 𝕄 :=
  iprop(holds (slotM d s) c fullShare (trav p d (2 * r + s.toNat) (fromDev d c)) ∗ reached ER (credCell d s (fromDev d c)) r)

/-- A role's rounds. -/
def roleDuties : Role → ℕ → Finset Bool
  | .bar, r => if r = 0 then Finset.univ else ∅
  | .cred _ _, r => if r < 30 then {false} else ∅
  | .send _ _, r => if r < 31 then {false} else ∅
  | .recv _ _, r => if r < 31 then {false} else ∅
  | .copy, _ => ∅
def roleAmount : Role → ℕ
  | .bar => 1 | .cred _ _ => 1 | _ => N
def rolePay (c : Dev nD) (r : ℕ) (b : Bool) : Role → sProp 𝕄
  | .bar => barPay b c
  | .cred d s => credPay d s c r
  | .send d s => sendPay p d s c r
  | .recv d s => recvPay p d s c r
  | .copy => iprop(emp)

/-- The schedule of all cells. -/
def rd : Rounds.Schedule (GSem nD τ sig) Bool 𝕄 where
  duties g r := if g.1.2 = .tc then roleDuties (role g.2) r else ∅
  unitless _ := False
  amount g _ _ := roleAmount (role g.2)
  payload g r b := rolePay p g.1.1 r b (role g.2)
  amount_pos g _ _ _ := by
    show 0 < roleAmount (role g.2)
    cases role g.2 <;> first | exact Nat.one_pos | exact N_pos

instance rolePay_storable (c : Dev nD) (r : ℕ) (b : Bool) (k : Role) : BI.Storable (upEmb : UEmb _ 𝕄) (rolePay p c r b k) := by
  cases k <;> unfold rolePay
  · unfold barPay; infer_instance
  · unfold credPay; infer_instance
  · unfold sendPay; infer_instance
  · unfold recvPay; infer_instance
  · infer_instance
instance rd_payload_storable (g : GSem nD τ sig) (r : ℕ) (b : Bool) : BI.Storable (upEmb : UEmb _ 𝕄) ((rd p).payload g r b) :=
  rolePay_storable p g.1.1 r b (role g.2)

theorem duties_eq (c : Dev nD) (sm : SemLoc sig) (r : ℕ) : (rd p).duties ((c : Thread nD τ), sm) r = roleDuties (role sm) r := by
  show (if ((c : Thread nD τ)).2 = Proc.tc then roleDuties (role sm) r else ∅) = _; exact if_pos rfl
theorem duties_send (d s : Bool) (c : Dev nD) (r : ℕ) (hr : r < 31) : (rd p).duties (sendCell d s c) r = {false} := by
  rw [duties_eq, role_send]; exact if_pos hr
theorem duties_recv (d s : Bool) (c : Dev nD) (r : ℕ) (hr : r < 31) : (rd p).duties (recvCell d s c) r = {false} := by
  rw [duties_eq, role_recv]; exact if_pos hr
theorem duties_cred (d s : Bool) (c : Dev nD) (r : ℕ) (hr : r < 30) : (rd p).duties (credCell d s c) r = {false} := by
  rw [duties_eq, role_cred]; exact if_pos hr
theorem duties_bar (c : Dev nD) : (rd p).duties (barCell c) 0 = Finset.univ := by rw [duties_eq, role_bar]; rfl

theorem amount_send (d s : Bool) (c : Dev nD) (r : ℕ) (b : Bool) : (rd p).amount (sendCell d s c) r b = N := by
  show roleAmount (role _) = N; rw [role_send]; rfl
theorem amount_recv (d s : Bool) (c : Dev nD) (r : ℕ) (b : Bool) : (rd p).amount (recvCell d s c) r b = N := by
  show roleAmount (role _) = N; rw [role_recv]; rfl
theorem amount_cred (d s : Bool) (c : Dev nD) (r : ℕ) (b : Bool) : (rd p).amount (credCell d s c) r b = 1 := by
  show roleAmount (role _) = 1; rw [role_cred]; rfl
theorem amount_bar (c : Dev nD) (r : ℕ) (b : Bool) : (rd p).amount (barCell c) r b = 1 := rfl

theorem payload_send (d s : Bool) (c : Dev nD) (r : ℕ) (b : Bool) : (rd p).payload (sendCell d s c) r b = sendPay p d s c r := by
  show rolePay p c r b (role _) = _; rw [role_send]; rfl
theorem payload_recv (d s : Bool) (c : Dev nD) (r : ℕ) (b : Bool) : (rd p).payload (recvCell d s c) r b = recvPay p d s c r := by
  show rolePay p c r b (role _) = _; rw [role_recv]; rfl
theorem payload_cred (d s : Bool) (c : Dev nD) (r : ℕ) (b : Bool) : (rd p).payload (credCell d s c) r b = credPay d s c r := by
  show rolePay p c r b (role _) = _; rw [role_cred]; rfl
theorem payload_bar (c : Dev nD) (r : ℕ) (b : Bool) : (rd p).payload (barCell c) r b = barPay b c := rfl

theorem expect_send (d s : Bool) (c : Dev nD) (r : ℕ) (hr : r < 31) : (rd p).expect (sendCell d s c) r = N := by
  unfold Schedule.expect Schedule.amountOf; rw [duties_send p d s c r hr, Finset.sum_singleton, amount_send]
theorem expect_recv (d s : Bool) (c : Dev nD) (r : ℕ) (hr : r < 31) : (rd p).expect (recvCell d s c) r = N := by
  unfold Schedule.expect Schedule.amountOf; rw [duties_recv p d s c r hr, Finset.sum_singleton, amount_recv]
theorem expect_cred (d s : Bool) (c : Dev nD) (r : ℕ) (hr : r < 30) : (rd p).expect (credCell d s c) r = 1 := by
  unfold Schedule.expect Schedule.amountOf; rw [duties_cred p d s c r hr, Finset.sum_singleton, amount_cred]
theorem expect_bar (c : Dev nD) : (rd p).expect (barCell c) 0 = 2 := by
  unfold Schedule.expect Schedule.amountOf; rw [duties_bar, Fintype.sum_bool]; rfl

theorem rest_send (d s : Bool) (c : Dev nD) (r : ℕ) (hr : r < 31) :
    bigSep ((rd p).duties (sendCell d s c) r \ ∅) (fun u => (rd p).payload (sendCell d s c) r u) = sendPay p d s c r := by
  rw [Finset.sdiff_empty, duties_send p d s c r hr, bigSep_singleton, payload_send]
theorem rest_recv (d s : Bool) (c : Dev nD) (r : ℕ) (hr : r < 31) :
    bigSep ((rd p).duties (recvCell d s c) r \ ∅) (fun u => (rd p).payload (recvCell d s c) r u) = recvPay p d s c r := by
  rw [Finset.sdiff_empty, duties_recv p d s c r hr, bigSep_singleton, payload_recv]
theorem rest_cred (d s : Bool) (c : Dev nD) (r : ℕ) (hr : r < 30) :
    bigSep ((rd p).duties (credCell d s c) r \ ∅) (fun u => (rd p).payload (credCell d s c) r u) = credPay d s c r := by
  rw [Finset.sdiff_empty, duties_cred p d s c r hr, bigSep_singleton, payload_cred]

/-- A tensor core's cell has no duty from the rounds' number on. -/
theorem duties_later (g : GSem nD τ sig) (n : ℕ) (hn : match role g.2 with | .bar => 1 ≤ n | .cred _ _ => 30 ≤ n | .send _ _ => 31 ≤ n | .recv _ _ => 31 ≤ n | .copy => True) :
    ∀ r, n ≤ r → (rd p).duties g r = ∅ := fun r hr => by
  show (if _ then _ else _) = _
  split
  · revert hn
    cases role g.2 <;> intro hn <;> dsimp only at hn <;> unfold roleDuties
    · exact if_neg (by omega)
    · exact if_neg (by omega)
    · exact if_neg (by omega)
    · exact if_neg (by omega)
    · rfl
  · rfl

/-! ## What each core owes, and the levels -/

/-- What a core owes for step `j`: the two neighbours' receive cells their transfers, the two senders' credit cells a unit. -/
def dueRecv (d : Bool) (c : Dev nD) (j : ℕ) : CellTallies nD τ sig ℕ := tallyAt (recvCell d (slotOf j) (toDev d c)) j N
def dueCred (d : Bool) (c : Dev nD) (j : ℕ) : CellTallies nD τ sig ℕ := if j < 60 then tallyAt (credCell d (slotOf j) (fromDev d c)) j 1 else 0
def dueCreds (c : Dev nD) (j : ℕ) : CellTallies nD τ sig ℕ := dueCred true c j + dueCred false c j
def due (c : Dev nD) (j : ℕ) : CellTallies nD τ sig ℕ := dueCreds c j + dueRecv true c j + dueRecv false c j
/-- What it still owes before step `g`. -/
def owed (c : Dev nD) (g : ℕ) : CellTallies nD τ sig ℕ := ∑ j ∈ Finset.Ico g 62, due c j
/-- What it owes at launch: the steps', and the two neighbours' barriers. -/
def owed₀ (c : Dev nD) : CellTallies nD τ sig ℕ := owed c 0 + tallyAt (barCell (toDev false c)) 0 1 + tallyAt (barCell (toDev true c)) 0 1

theorem ico_head {g n : ℕ} (h : g < n) : Finset.Ico g n = insert g (Finset.Ico (g + 1) n) := by
  ext j; rw [Finset.mem_insert, Finset.mem_Ico, Finset.mem_Ico]; omega
theorem ico_fresh (g n : ℕ) : g ∉ Finset.Ico (g + 1) n := fun h => by rw [Finset.mem_Ico] at h; omega
theorem ico_last {g n : ℕ} (h : g ≤ n) : Finset.Ico g (n + 1) = insert n (Finset.Ico g n) := by
  ext j; rw [Finset.mem_insert, Finset.mem_Ico, Finset.mem_Ico]; omega
theorem ico_fresh_last (g n : ℕ) : n ∉ Finset.Ico g n := fun h => by rw [Finset.mem_Ico] at h; omega

theorem owed_step (c : Dev nD) (g : ℕ) (hg : g < 62) : owed c g = owed c (g + 1) + dueCreds c g + dueRecv true c g + dueRecv false c g := by
  unfold owed
  rw [ico_head hg, Finset.sum_insert (ico_fresh g 62), due, add_comm, ← add_assoc, ← add_assoc]
theorem owed_end (c : Dev nD) : owed c 62 = 0 := rfl

def L (g : GSem nD τ sig) : Finset ℕ := if g.1.2 = .tc then Finset.range 62 else ∅
/-- A receive cell at step `j` lies below its credit cell at step `j`, and those below the next step's; a barrier cell lies
    below all of these, the rest lowest. -/
def lv (g : GSem nD τ sig) (j : ℕ) : ℕ := match role g.2 with | .recv _ _ => 2 * j + 2 | .cred _ _ => 2 * j + 3 | .bar => 1 | _ => 0

theorem L_of_ne (g : GSem nD τ sig) (h : g.1.2 ≠ .tc) : L g = ∅ := if_neg h
theorem L_tc (c : Dev nD) (sm : SemLoc sig) : L ((c : Thread nD τ), sm) = Finset.range 62 := if_pos rfl
theorem lv_recv (d s : Bool) (c : Dev nD) (j : ℕ) : lv (recvCell d s c) j = 2 * j + 2 := by unfold lv; rw [role_recv]
theorem lv_cred (d s : Bool) (c : Dev nD) (j : ℕ) : lv (credCell d s c) j = 2 * j + 3 := by unfold lv; rw [role_cred]

/-- All of a tally's entries lie above level `b + 1`, at indices below 62. -/
def Above (b : ℕ) (O : CellTallies nD τ sig ℕ) : Prop := ∀ (g : GSem nD τ sig) (j : ℕ), 0 < O g j → j ∈ L g ∧ b + 1 < lv g j

theorem Above.zero (b : ℕ) : Above b 0 := fun g j h => absurd h (Nat.lt_irrefl 0)
theorem Above.add {b : ℕ} {O O' : CellTallies nD τ sig ℕ} (h : Above b O) (h' : Above b O') : Above b (O + O') := fun g j hp => by
  rw [Pi.add_apply, Finsupp.add_apply] at hp
  rcases Nat.add_pos_iff_pos_or_pos.mp hp with hp | hp
  · exact h g j hp
  · exact h' g j hp
theorem Above.mono {b b' : ℕ} {O : CellTallies nD τ sig ℕ} (hb : b' ≤ b) (h : Above b O) : Above b' O := fun g j hp =>
  ⟨(h g j hp).1, lt_of_le_of_lt (Nat.succ_le_succ hb) (h g j hp).2⟩
theorem Above.tally {b : ℕ} (c : Dev nD) (sm : SemLoc sig) (j n : ℕ) (hj : j < 62) (h : b + 1 < lv ((c : Thread nD τ), sm) j) :
    Above b (tallyAt ((c : Thread nD τ), sm) j n) := fun g i hp => by
  obtain ⟨rfl, rfl⟩ := Pipeline.tallyAt_pos hp
  exact ⟨by rw [L_tc]; exact Finset.mem_range.mpr hj, h⟩

theorem above_recv {b : ℕ} (d : Bool) (c : Dev nD) (j : ℕ) (hj : j < 62) (hb : b < 2 * j + 1) : Above b (dueRecv d c j) :=
  Above.tally _ _ _ _ hj (by rw [lv_recv]; omega)
theorem above_creds {b : ℕ} (c : Dev nD) (j : ℕ) (hj : j < 62) (hb : b < 2 * j + 2) : Above b (dueCreds c j) := by
  have h : ∀ d, Above b (dueCred d c j) := fun d => by
    unfold dueCred
    split
    · exact Above.tally _ _ _ _ hj (by rw [lv_cred]; omega)
    · exact Above.zero _
  exact (h true).add (h false)
theorem above_owed {b : ℕ} (c : Dev nD) (g : ℕ) (hb : b < 2 * g + 1) : Above b (owed c g) := by
  unfold owed
  refine Finset.sum_induction _ (Above b) (fun _ _ => Above.add) (Above.zero b) fun j hj => ?_
  have := Finset.mem_Ico.mp hj
  exact ((above_creds c j this.2 (by omega)).add (above_recv true c j this.2 (by omega))).add (above_recv false c j this.2 (by omega))

/-- A core may wait on a cell of its own at a level below all it owes. -/
theorem mayWait {b : ℕ} (c : Dev nD) (sm : SemLoc sig) (j : ℕ) (hj : j < 62) (O : CellTallies nD τ sig ℕ) (hlv : lv ((c : Thread nD τ), sm) j ≤ b + 1) (hO : Above b O) :
    (levAts L lv : sProp 𝕄) ⊢ MayWait (c : Thread nD τ) sm j O :=
  MayOwe.of_cut (L := L) (lev := lv) (b + 1) (fun q hq => by rw [Finset.mem_singleton.mp hq, L_tc]; exact Finset.mem_range.mpr hj)
    (fun g u hg => (hO g u hg).1)
    (fun q hq => by rw [Finset.mem_singleton.mp hq]; exact hlv)
    (fun g u hg => (hO g u hg).2)

end Cert.AllReduce
-- ==== Proof.Blocks.lean ====
/-
  The blocks of a step, each with what it needs and what it leaves: one direction at a time, at any step number.
-/
module

public import proofs.«01_k».proof.Proof.Sched

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program run on device `c`'s tensor core. -/
abbrev wpk (c : Dev nD) (k : KProg F) (Q : PUnit → sProp 𝕄) : sProp 𝕄 :=
  wp frame (wpE (defs₀ (F := F)) 𝒱₀ (c : Thread nD τ) none) Set.univ k Q

variable (p : Dev nD → Arr F)

/-! ## The invariants -/

/-- The scoped cells of the protocol, by device, direction, slot and kind. -/
abbrev ScIx : Type := Dev nD × Bool × Bool × Fin 3
def scSem (d s : Bool) (k : Fin 3) : SemLoc sig := match k with | 0 => .dma (sendS d s) | 1 => .dma (recvS d s) | 2 => .reg (credS d s)
def scCell (i : ScIx) : GSem nD τ sig := ((i.1 : Thread nD τ), scSem i.2.1 i.2.2.1 i.2.2.2)

theorem scSem_inj : ∀ (d s : Bool) (k : Fin 3) (d' s' : Bool) (k' : Fin 3), scSem d s k = scSem d' s' k' → d = d' ∧ s = s' ∧ k = k' := by decide
theorem scCell_inj : Function.Injective scCell := fun i j h => by
  obtain ⟨c, d, s, k⟩ := i; obtain ⟨c', d', s', k'⟩ := j
  have h1 : c = c' := congrArg (fun g : GSem nD τ sig => g.1.1) h
  obtain ⟨h2, h3, h4⟩ := scSem_inj d s k d' s' k' (congrArg (fun g : GSem nD τ sig => g.2) h)
  rw [h1, h2, h3, h4]
theorem barCell_inj : Function.Injective barCell := fun c c' h => congrArg (fun g : GSem nD τ sig => g.1.1) h

def barCells : Finset (GSem nD τ sig) := Finset.univ.map ⟨barCell, barCell_inj⟩
def scCells : Finset (GSem nD τ sig) := Finset.univ.map ⟨scCell, scCell_inj⟩

theorem mem_scCells (i : ScIx) : scCell i ∈ scCells := Finset.mem_map_of_mem _ (Finset.mem_univ i)
theorem mem_barCells (c : Dev nD) : barCell c ∈ barCells := Finset.mem_map_of_mem ⟨barCell, barCell_inj⟩ (Finset.mem_univ c)

/-- Every cell's invariant, at the names `K`, and the levels: what all devices know throughout. -/
def ctx (K : GSem nD τ sig → ℕ) : sProp 𝕄 :=
  iprop(bigSep (barCells ∪ scCells) (fun g => cellInv ER (rd p) (K g) g) ∗ levAts L lv)
instance ctx_persistent (K : GSem nD τ sig → ℕ) : BI.Persistent (ctx p K) := by unfold ctx; infer_instance

theorem ctx_cell (K : GSem nD τ sig → ℕ) (g : GSem nD τ sig) (hg : g ∈ barCells ∪ scCells) : ctx p K ⊢ cellInv ER (rd p) (K g) g := by
  unfold ctx
  exact sep_elim_left.trans (BI.bigSep_elim hg)
theorem ctx_lev (K : GSem nD τ sig → ℕ) : ctx p K ⊢ (levAts L lv : sProp 𝕄) := by
  unfold ctx
  iintro ⟨-, H⟩; iexact H
theorem ctx_mayWait {b : ℕ} (K : GSem nD τ sig → ℕ) (c : Dev nD) (sm : SemLoc sig) (j : ℕ) (hj : j < 62) (O : CellTallies nD τ sig ℕ)
    (hlv : lv ((c : Thread nD τ), sm) j ≤ b + 1) (hO : Above b O) : ctx p K ⊢ MayWait (c : Thread nD τ) sm j O :=
  (ctx_lev p K).trans (mayWait c sm j hj O hlv hO)
theorem ctx_send (K : GSem nD τ sig → ℕ) (d s : Bool) (c : Dev nD) : ctx p K ⊢ cellInv ER (rd p) (K (sendCell d s c)) (sendCell d s c) :=
  ctx_cell p K _ (Finset.mem_union_right _ (mem_scCells (c, d, s, 0)))
theorem ctx_recv (K : GSem nD τ sig → ℕ) (d s : Bool) (c : Dev nD) : ctx p K ⊢ cellInv ER (rd p) (K (recvCell d s c)) (recvCell d s c) :=
  ctx_cell p K _ (Finset.mem_union_right _ (mem_scCells (c, d, s, 1)))
theorem ctx_cred (K : GSem nD τ sig → ℕ) (d s : Bool) (c : Dev nD) : ctx p K ⊢ cellInv ER (rd p) (K (credCell d s c)) (credCell d s c) :=
  ctx_cell p K _ (Finset.mem_union_right _ (mem_scCells (c, d, s, 2)))
theorem ctx_bar (K : GSem nD τ sig → ℕ) (c : Dev nD) : ctx p K ⊢ cellInv ER (rd p) (K (barCell c)) (barCell c) :=
  ctx_cell p K _ (Finset.mem_union_left _ (mem_barCells c))

/-! ## Credit -/

/-- The owner's standing on a cell: its round, and that the round is reached. -/
def posn (g : GSem nD τ sig) (R : ℕ) : sProp 𝕄 := iprop(atPos ER g R ∅ 0 ∗ reached ER g R)

/-- A wait for a unit of credit: the neighbour's slot comes back empty. -/
theorem wp_waitCred (K : GSem nD τ sig → ℕ) (d : Bool) (g : ℕ) (c : Dev nD) (h2 : 2 ≤ g) (hg : g < 62) (O : CellTallies nD τ sig ℕ) (W : Waits sig ℕ)
    (hO : Above (2 * g - 2) O) (k : KProg F) (Q : PUnit → sProp 𝕄) :
    iprop(ctx p K ∗ posn (credCell d (slotOf g) c) (g / 2 - 1) ∗ cred (tallyAt (credCell d (slotOf g) c) (g - 2) 1) ∗ owes (c : Thread nD τ) O W
        ∗ ((posn (credCell d (slotOf g) c) (g / 2) ∗ owns (slotM d (slotOf g)) (toDev d c) ∗ reached ER (recvCell d (slotOf g) (toDev d c)) (g / 2)
            ∗ ∃ W, owes (c : Thread nD τ) O W) -∗ wpk c k Q))
      ⊢ wpk c (.op (.semWait (credS d (slotOf g)) 1) fun _ => k) Q := by
  have hR : g / 2 - 1 + 1 = g / 2 := by omega
  have hlv : lv (credCell d (slotOf g) c) (g - 2) ≤ 2 * g - 2 + 1 := by rw [lv_cred]; omega
  have hmw := ctx_mayWait p K c (.reg (credS d (slotOf g))) (g - 2) (by omega) O hlv hO
  unfold posn
  iintro ⟨#Hc, ⟨Hat, -⟩, Hcr, HO, Hk⟩
  iapply (Rounds.wp_wait_rest_token 𝒱₀ ER (rd p) (c : Thread nD τ) none (κ := K (credCell d (slotOf g) c))
      (wpE_semWait_eq 𝒱₀ (c : Thread nD τ) none Set.univ) (Set.mem_univ _) (g - 2) (O := O) (W := W) (R := g / 2 - 1) (m := 0) (T := ∅)
      ((Nat.zero_add 1).trans (expect_cred p d (slotOf g) c _ (by omega)).symm)) $$ [Hcr HO Hat]
  · isplitr; · iapply (ctx_cred p K) $$ Hc
    isplitl [Hcr]; · iexact Hcr
    isplitl [HO]; · iexact HO
    isplitr; · iapply hmw $$ Hc
    iexact Hat
  iintro ⟨HO, Hat, Hr, Hpay⟩
  ihave Hp := (Entails.of_eq (rest_cred p d (slotOf g) c _ (by omega))) $$ Hpay
  unfold credPay
  icases Hp with ⟨Hs, Hrr⟩
  rw [hR]
  iapply Hk
  isplitl [Hat Hr]
  · isplitl [Hat] <;> iassumption
  isplitl [Hs]; · iexact Hs
  isplitl [Hrr]; · iexact Hrr
  iexists _; iexact HO

/-- A unit of credit given: the own slot, emptied, goes to the neighbour it receives from. -/
theorem wp_giveCred (K : GSem nD τ sig → ℕ) (d : Bool) (g : ℕ) (c : Dev nD) (hg : g < 60) (O : CellTallies nD τ sig ℕ) (W : Waits sig ℕ)
    (k : KProg F) (Q : PUnit → sProp 𝕄) :
    iprop(ctx p K ∗ owns (slotM d (slotOf g)) c ∗ dutyTok ER (credCell d (slotOf g) (fromDev d c)) (g / 2) false
        ∗ reached ER (recvCell d (slotOf g) c) (g / 2 + 1) ∗ reached ER (credCell d (slotOf g) (fromDev d c)) (g / 2)
        ∗ owes (c : Thread nD τ) (O + dueCred d c g) W
        ∗ (owes (c : Thread nD τ) O W -∗ wpk c k Q))
      ⊢ wpk c (.op (.semSignal (Dev.tc (fromDev d c)) (credS d (slotOf g)) 1) fun _ => k) Q := by
  iintro ⟨#Hc, Hs, Ht, Hr, Hrc, HO, Hk⟩
  iapply (Rounds.wp_signal 𝒱₀ ER (rd p) (c : Thread nD τ) none (dst := (fromDev d c : Thread nD τ)) (sem := credS d (slotOf g)) (r := g / 2) (d := false)
      (κ := K (credCell d (slotOf g) (fromDev d c)))
      (by rw [duties_cred p d _ _ _ (by omega)]; exact Finset.mem_singleton_self _) (amount_cred p d _ _ _ _) g (O₀ := O + dueCred d c g) O (by rw [dueCred, if_pos hg]))
    $$ [HO Ht Hs Hr Hrc]
  · isplitr; · iapply (ctx_cred p K) $$ Hc
    isplitl [HO]; · iexact HO
    isplitl [Ht]; · iexact Ht
    isplitl [Hs Hr]
    · rw [payload_cred]; unfold credPay; rw [to_from]
      isplitl [Hs] <;> iassumption
    · iexact Hrc
  iexact Hk

/-! ## Transfers to the neighbour -/

/-- A transfer of the travelling chunk into the neighbour's slot: both are lent until it has left and landed. -/
theorem wp_startSend (K : GSem nD τ sig → ℕ) (d : Bool) (g : ℕ) (c : Dev nD) (hg : g < 62) (O : CellTallies nD τ sig ℕ) (W : Waits sig ℕ)
    (k : KProg F) (Q : PUnit → sProp 𝕄) :
    iprop(ctx p K ∗ holds (accM d) c fullShare (trav p d g c) ∗ owns (slotM d (slotOf g)) (toDev d c)
        ∗ dutyTok ER (sendCell d (slotOf g) c) (g / 2) false ∗ reached ER (sendCell d (slotOf g) c) (g / 2)
        ∗ dutyTok ER (recvCell d (slotOf g) (toDev d c)) (g / 2) false ∗ reached ER (recvCell d (slotOf g) (toDev d c)) (g / 2)
        ∗ reached ER (credCell d (slotOf g) c) (g / 2)
        ∗ owes (c : Thread nD τ) (O + dueRecv d c g) W
        ∗ ((cred (tallyAt (sendCell d (slotOf g) c) 0 N) ∗ owes (c : Thread nD τ) O W) -∗ wpk c k Q))
      ⊢ wpk c (startSend d (slotOf g) c k) Q := by
  have hg2 : 2 * (g / 2) + (slotOf g).toNat = g := by
    unfold slotOf
    rcases Nat.mod_two_eq_zero_or_one g with h | h <;> rw [h] <;> simp [Nat.beq] <;> omega
  unfold startSend holds owns
  iintro ⟨#Hc, ⟨%fs, Ha, %hv⟩, ⟨%fd, Hs⟩, Ht1, Hr1, Ht2, Hr2, Hrc, HO, Hk⟩
  iapply (Rounds.wp_send_pointsTo_with 𝒱₀ ER (rd p) (c : Thread nD τ) none (c' := (toDev d c : Thread nD τ)) (src := accM d) (dst := slotM d (slotOf g))
      (sS := .dma (sendS d (slotOf g))) (sem := .dma (recvS d (slotOf g))) (q := fullShare) (fs := fs) (fd := fd)
      (κ₁ := K (sendCell d (slotOf g) c)) (κ₂ := K (recvCell d (slotOf g) (toDev d c)))
      (r₁ := g / 2) (r₂ := g / 2) (d₁ := false) (d₂ := false) (F := reached ER (credCell d (slotOf g) c) (g / 2))
      (by rw [duties_send p d _ _ _ (by omega)]; exact Finset.mem_singleton_self _) (by rw [duties_recv p d _ _ _ (by omega)]; exact Finset.mem_singleton_self _)
      g 0 N (N_slot d _) (amount_send p d _ _ _ _) (amount_recv p d _ _ _ _) O rfl (W := W)
      (by
        rw [payload_send]; unfold sendPay holds; rw [hg2]
        iintro H; iexists fs
        isplitl [H]; · iexact H
        ipureintro; exact hv)
      (by
        rw [payload_recv]; unfold recvPay holds; rw [hg2, from_to]
        iintro ⟨H, Hr⟩
        isplitl [H]
        · iexists _
          isplitl [H]; · iexact H
          ipureintro; exact (View.read_write_univ _ _).trans hv
        · iexact Hr)) $$ [Ha Hs HO Ht1 Hr1 Ht2 Hr2 Hrc]
  · isplitr; · iapply (ctx_send p K) $$ Hc
    isplitr; · iapply (ctx_recv p K) $$ Hc
    isplitl [Ha]; · iexact Ha
    isplitl [Hs Hrc]; · isplitl [Hs] <;> iassumption
    isplitl [HO]; · iexact HO
    isplitl [Ht1]; · iexact Ht1
    isplitl [Hr1]; · iexact Hr1
    isplitl [Ht2] <;> iassumption
  iexact Hk

end Cert.AllReduce
-- ==== Proof.Copies.lean ====
/-
  The rest of a step's blocks: waiting for the transfers between devices, the local copies, the loads and stores.
-/
module

public import proofs.«01_k».proof.Proof.Blocks
public import Idealize.ShloMosaic.Lib.Pipeline.Value

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (p : Dev nD → Arr F)

theorem slot_arith (g : ℕ) : 2 * (g / 2) + (slotOf g).toNat = g := by
  unfold slotOf
  rcases Nat.mod_two_eq_zero_or_one g with h | h <;> rw [h] <;> simp [Nat.beq] <;> omega

/-- Both of step `g`'s transfers over: the travelling chunk is back, and the neighbour's is in the slot. -/
theorem wp_waitSend (K : GSem nD τ sig → ℕ) (d : Bool) (g : ℕ) (c : Dev nD) (hg : g < 62) (O : CellTallies nD τ sig ℕ) (W : Waits sig ℕ)
    (hO : Above (2 * g + 1) O) (k : KProg F) (Q : PUnit → sProp 𝕄) :
    iprop(ctx p K ∗ posn (sendCell d (slotOf g) c) (g / 2) ∗ posn (recvCell d (slotOf g) c) (g / 2)
        ∗ cred (tallyAt (sendCell d (slotOf g) c) 0 N) ∗ cred (tallyAt (recvCell d (slotOf g) c) g N) ∗ owes (c : Thread nD τ) O W
        ∗ ((posn (sendCell d (slotOf g) c) (g / 2 + 1) ∗ posn (recvCell d (slotOf g) c) (g / 2 + 1)
            ∗ holds (accM d) c fullShare (trav p d g c) ∗ holds (slotM d (slotOf g)) c fullShare (trav p d g (fromDev d c))
            ∗ reached ER (credCell d (slotOf g) (fromDev d c)) (g / 2) ∗ ∃ W, owes (c : Thread nD τ) O W) -∗ wpk c k Q))
      ⊢ wpk c (waitSend d (slotOf g) k) Q := by
  have hmw := ctx_mayWait p K c (.dma (sendS d (slotOf g))) 0 (by omega) O (b := 0) (by unfold lv; rw [role_send]; exact Nat.zero_le _) (hO.mono (Nat.zero_le _))
  have hmw2 := ctx_mayWait p K c (.dma (recvS d (slotOf g))) g hg O (b := 2 * g + 1) (by rw [lv_recv]) hO
  unfold posn waitSend
  iintro ⟨#Hc, ⟨Has, -⟩, ⟨Har, -⟩, Hcs, Hcr, HO, Hk⟩
  iapply (Rounds.wp_wait_rest_token 𝒱₀ ER (rd p) (c : Thread nD τ) none (κ := K (sendCell d (slotOf g) c))
      (wpE_waitDma2_eq 𝒱₀ (c : Thread nD τ) none Set.univ) (Set.mem_univ _) 0 (O := O) (W := W) (R := g / 2) (m := 0) (T := ∅)
      ((Nat.zero_add _).trans ((N_acc d).trans (expect_send p d (slotOf g) c _ (by omega)).symm))) $$ [Hcs HO Has]
  · isplitr; · iapply (ctx_send p K) $$ Hc
    isplitl [Hcs]; · rw [N_acc]; iexact Hcs
    isplitl [HO]; · iexact HO
    isplitr; · iapply hmw $$ Hc
    iexact Has
  iintro ⟨HO, Has, Hrs, Hpay⟩
  ihave Hp := (Entails.of_eq (rest_send p d (slotOf g) c _ (by omega))) $$ Hpay
  iapply (Rounds.wp_wait_rest_token 𝒱₀ ER (rd p) (c : Thread nD τ) none (κ := K (recvCell d (slotOf g) c))
      (wpE_waitDma2_eq 𝒱₀ (c : Thread nD τ) none Set.univ) (Set.mem_univ _) g (O := O) (R := g / 2) (m := 0) (T := ∅)
      ((Nat.zero_add _).trans ((N_slot d _).trans (expect_recv p d (slotOf g) c _ (by omega)).symm))) $$ [Hcr HO Har]
  · isplitr; · iapply (ctx_recv p K) $$ Hc
    isplitl [Hcr]; · rw [N_slot]; iexact Hcr
    isplitl [HO]; · iexact HO
    isplitr; · iapply hmw2 $$ Hc
    iexact Har
  iintro ⟨HO, Har, Hrr, Hpay⟩
  ihave Hp2 := (Entails.of_eq (rest_recv p d (slotOf g) c _ (by omega))) $$ Hpay
  unfold sendPay recvPay
  rw [slot_arith]
  icases Hp2 with ⟨Hs, Hrc⟩
  iapply Hk
  isplitl [Has Hrs]; · isplitl [Has] <;> iassumption
  isplitl [Har Hrr]; · isplitl [Har] <;> iassumption
  isplitl [Hp]; · iexact Hp
  isplitl [Hs]; · iexact Hs
  isplitl [Hrc]; · iexact Hrc
  iexists _; iexact HO

/-! ## Local copies -/

/-- The own array, held at share `q` outside chunk `k` or whole. -/
abbrev arrPts (c : Dev nD) (S : Finset S4096x8192.Idx) (q : PosShare TreeShare) : sProp 𝕄 := (pM.view.loc (c : Thread nD τ) : Loc nD τ sig) ↦[S]{q} (p c : Buf (Elt F) (pM.view.loc (c : Thread nD τ)))

/-- A fetch of chunk `k` of the own array into `dst`, on its way. -/
def fetching (d : Bool) (dst : Memref sig .tc .vmem S64x8192 .f32) (q : PosShare TreeShare) (k c : Dev nD) : sProp 𝕄 :=
  iprop(Transfers.Flight EC (c : Thread nD τ) (.dma (cpiS d)) 0 N iprop(holds dst c fullShare (chunkOf d k (p c)) ∗ arrPts p c (chunkSet d k) q)
    ∗ arrPts p c (Finset.univ \ chunkSet d k) q)

theorem wp_startFetch (d : Bool) (dst : Memref sig .tc .vmem S64x8192 .f32) (hd : dst.view.WordExact) (hN : dst.view.dmaCredit = N)
    (q : PosShare TreeShare) (j c : Dev nD) (o : Fin 2 → ℕ) (h : InB o) (ho : o = off d j) (k : KProg F) (Q : PUnit → sProp 𝕄) :
    iprop(arrPts p c Finset.univ q ∗ owns dst c ∗ semVal ((c : Thread nD τ), .dma (cpiS d)) 0
        ∗ (fetching p d dst q j c -∗ wpk c k Q))
      ⊢ wpk c (startFetch d dst hd o h k) Q := by
  subst ho
  have hset : (chunkM pM (off d j) h).view.set = chunkSet d j := View.set_slice_whole _ _
  unfold startFetch fetching owns
  iintro ⟨Hp, ⟨%fd, Hd⟩, Hv, Hk⟩
  ihave Hp2 := (pointsTo_split_subset (Finset.subset_univ (chunkSet d j))).1 $$ Hp
  icases Hp2 with ⟨Hp, Hrest⟩
  iapply (Transfers.wp_dmaLocal EC 𝒱₀ (c : Thread nD τ) none (src := chunkM pM (off d j) h) (via := .same) (dst := dst) (sm := .dma (cpiS d)) (q := q)
      (Sd := dst.view.set) (fd := fd) (fs := p c) 0 N hN N_pos (Finset.Subset.refl _)) $$ [Hp Hd Hv]
  · isplitl [Hp]; · rw [hset]; iexact Hp
    isplitl [Hd]; · iexact Hd
    iexact Hv
  iintro Hf
  iapply Hk
  isplitl [Hf]
  · iapply (Transfers.Flight_mono EC (c : Thread nD τ) ?_) $$ Hf
    unfold holds
    iintro ⟨H1, H2⟩
    isplitl [H1]
    · iexists _
      isplitl [H1]; · iexact H1
      ipureintro; exact View.read_write_univ _ _
    · rw [hset]; iexact H2
  · iexact Hrest

theorem wp_waitFetch (K : GSem nD τ sig → ℕ) (d : Bool) (dst : Memref sig .tc .vmem S64x8192 .f32) (hd : dst.view.WordExact) (hN : dst.view.dmaCredit = N)
    (q : PosShare TreeShare) (j c : Dev nD) (o : Fin 2 → ℕ) (h : InB o) (O : CellTallies nD τ sig ℕ) (W : Waits sig ℕ) (hO : Above 0 O)
    (k : KProg F) (Q : PUnit → sProp 𝕄) :
    iprop(ctx p K ∗ fetching p d dst q j c ∗ owes (c : Thread nD τ) O W
        ∗ ((holds dst c fullShare (chunkOf d j (p c)) ∗ arrPts p c Finset.univ q ∗ semVal ((c : Thread nD τ), .dma (cpiS d)) 0
            ∗ ∃ W, owes (c : Thread nD τ) O W) -∗ wpk c k Q))
      ⊢ wpk c (waitFetch d dst hd o h k) Q := by
  have hmw := ctx_mayWait p K c (.dma (cpiS d)) 0 (by omega) O (b := 0) (by unfold lv; rw [role_cpi]; exact Nat.zero_le _) hO
  unfold waitFetch fetching
  iintro ⟨#Hc, ⟨Hf, Hrest⟩, HO, Hk⟩
  iapply (Transfers.wp_waitLocalO EC 𝒱₀ (c : Thread nD τ) none 0 hN (O := O) (W := W)) $$ [Hf HO]
  · isplitl [Hf]; · iexact Hf
    isplitl [HO]; · iexact HO
    iapply hmw $$ Hc
  iintro ⟨⟨Hd, Hp⟩, Hv, HO⟩
  iapply Hk
  isplitl [Hd]; · iexact Hd
  isplitl [Hp Hrest]
  · iapply (pointsTo_split_subset (Finset.subset_univ (chunkSet d j))).2
    isplitl [Hp]; · iexact Hp
    iexact Hrest
  isplitl [Hv]; · iexact Hv
  iexists _; iexact HO

/-- A direction's rows of the result array, at contents `f`. -/
abbrev outPts (d : Bool) (c : Dev nD) (f : Arr F) : sProp 𝕄 := (oM.view.loc (c : Thread nD τ) : Loc nD τ sig) ↦[dirSet d]{fullShare} (f : Buf (Elt F) (oM.view.loc (c : Thread nD τ)))

theorem N_chunk (o : Fin 2 → ℕ) (h : InB o) : (chunkM oM o h).view.dmaCredit = N := rfl

/-- A copy of the travelling chunk `v` into chunk `j` of the result array, which held `f`, on its way. -/
def putting (d : Bool) (j c : Dev nD) (v : Vec64 F) (f : Arr F) : sProp 𝕄 :=
  Transfers.Flight EC (c : Thread nD τ) (.dma (cpoS d)) 0 N iprop((∃ f', outPts d c f' ∗ ⌜chunkOf d j f' = v ∧ ∀ i, i ≠ j → chunkOf d i f' = chunkOf d i f⌝)
    ∗ holds (accM d) c fullShare v)

theorem wp_startPut (d : Bool) (j c : Dev nD) (v : Vec64 F) (f : Arr F) (o : Fin 2 → ℕ) (h : InB o) (ho : o = off d j) (k : KProg F) (Q : PUnit → sProp 𝕄) :
    iprop(outPts d c f ∗ holds (accM d) c fullShare v ∗ semVal ((c : Thread nD τ), .dma (cpoS d)) 0
        ∗ (putting d j c v f -∗ wpk c k Q))
      ⊢ wpk c (startPut d o h k) Q := by
  subst ho
  unfold startPut putting
  have hset : (chunkM oM (off d j) h).view.set = chunkSet d j := View.set_slice_whole _ _
  unfold holds
  iintro ⟨Ho, ⟨%fs, Ha, %hv⟩, Hv, Hk⟩
  iapply (Transfers.wp_dmaLocal EC 𝒱₀ (c : Thread nD τ) none (src := accM d) (via := .same) (dst := chunkM oM (off d j) h) (sm := .dma (cpoS d)) (q := fullShare)
      (Sd := dirSet d) (fd := f) (fs := fs) 0 N (N_chunk _ h) N_pos (hset ▸ chunkSet_subset d j)) $$ [Ha Ho Hv]
  · isplitl [Ha]; · iexact Ha
    isplitl [Ho]; · iexact Ho
    iexact Hv
  iintro Hf
  iapply Hk
  iapply (Transfers.Flight_mono EC (c : Thread nD τ) ?_) $$ Hf
  iintro ⟨H1, H2⟩
  isplitl [H1]
  · iexists _
    isplitl [H1]; · iexact H1
    ipureintro
    constructor
    · rw [← hv]; exact View.read_write_univ (v := (chunkM oM (off d j) h).view) f _
    · intro i hi
      funext x
      refine View.write_of_not_mem _ _ _ fun hx => ?_
      have hs : (chunkM oM (off d i) (off_inb d i)).view.set = chunkSet d i := View.set_slice_whole _ _
      have hm := View.emb_mem_set (chunkM oM (off d i) (off_inb d i)).view x
      have hx : _ ∈ (chunkM oM (off d j) h).view.set := hx
      rw [hs] at hm
      rw [hset] at hx
      exact Finset.disjoint_left.mp (chunkSet_disjoint d hi) hm hx
  · iexists fs
    isplitl [H2]; · iexact H2
    ipureintro; exact hv

theorem wp_waitPut (K : GSem nD τ sig → ℕ) (d : Bool) (j c : Dev nD) (v : Vec64 F) (f : Arr F) (o : Fin 2 → ℕ) (h : InB o)
    (O : CellTallies nD τ sig ℕ) (W : Waits sig ℕ) (hO : Above 0 O) (k : KProg F) (Q : PUnit → sProp 𝕄) :
    iprop(ctx p K ∗ putting d j c v f ∗ owes (c : Thread nD τ) O W
        ∗ (((∃ f', outPts d c f' ∗ ⌜chunkOf d j f' = v ∧ ∀ i, i ≠ j → chunkOf d i f' = chunkOf d i f⌝) ∗ holds (accM d) c fullShare v
            ∗ semVal ((c : Thread nD τ), .dma (cpoS d)) 0 ∗ ∃ W, owes (c : Thread nD τ) O W) -∗ wpk c k Q))
      ⊢ wpk c (waitPut d o h k) Q := by
  have hmw := ctx_mayWait p K c (.dma (cpoS d)) 0 (by omega) O (b := 0) (by unfold lv; rw [role_cpo]; exact Nat.zero_le _) hO
  unfold waitPut putting
  iintro ⟨#Hc, Hf, HO, Hk⟩
  iapply (Transfers.wp_waitLocalO EC 𝒱₀ (c : Thread nD τ) none 0 (N := N) (N_chunk o h) (O := O) (W := W)) $$ [Hf HO]
  · isplitl [Hf]; · iexact Hf
    isplitl [HO]; · iexact HO
    iapply hmw $$ Hc
  iintro ⟨⟨Hd, Ha⟩, Hv, HO⟩
  iapply Hk
  isplitl [Hd]; · iexact Hd
  isplitl [Ha]; · iexact Ha
  isplitl [Hv]; · iexact Hv
  iexists _; iexact HO

/-! ## Loads and stores -/

theorem whole_emb (x : S64x8192.Idx) : wholeRect.emb x = x := by
  funext a; apply Fin.ext; rw [Rect.emb_apply]
  match a with
  | 0 => simp
  | 1 => simp

theorem wp_loadWhole (M : Memref sig .tc .vmem S64x8192 .f32) (c : Dev nD) (v : Vec64 F) (hl : M.view.LoadsAt wholeRect.toLoadRect)
    (k : Vec F S64x8192 .f32 → KProg F) (Q : PUnit → sProp 𝕄) :
    iprop(holds M c fullShare v ∗ (holds M c fullShare v -∗ wpk c (k v) Q)) ⊢ wpk c (.op (.load M wholeRect.toLoadRect hl) k) Q := by
  unfold holds
  iintro ⟨⟨%f, H, %hv⟩, Hk⟩
  iapply (wp_load (defs := defs₀ (F := F)) 𝒱₀ (c : Thread nD τ) none Set.univ (m := M) (r := wholeRect.toLoadRect) (S := M.view.set) (Finset.map_subset_map.mpr (Finset.subset_univ _))) $$ H
  have hr : M.view.readAt (Elt F) wholeRect.toLoadRect f = v := by
    rw [← hv]; funext x; exact congrArg (M.view.read (Elt F) f) (whole_emb x)
  rw [hr]
  iintro H
  iapply Hk
  iexists f
  isplitl [H]; · iexact H
  ipureintro; exact hv

theorem wp_storeWhole (M : Memref sig .tc .vmem S64x8192 .f32) (c : Dev nD) (w : Vec64 F) (hx) (hm)
    (k : PUnit → KProg F) (Q : PUnit → sProp 𝕄) :
    iprop(owns M c ∗ (holds M c fullShare w -∗ wpk c (k ⟨⟩) Q)) ⊢ wpk c (.op (.store M wholeRect w Finset.univ hx hm) k) Q := by
  unfold holds owns
  iintro ⟨⟨%f, H⟩, Hk⟩
  iapply (wp_store (defs := defs₀ (F := F)) 𝒱₀ (c : Thread nD τ) none Set.univ (m := M) (r := wholeRect) (S := M.view.set) (Mk := Finset.univ)
    (fun i hi => by
      obtain ⟨x, -, rfl⟩ := Finset.mem_map.mp hi
      exact M.view.emb_mem_set _)) $$ H
  iintro H
  iapply Hk
  iexists _
  isplitl [H]; · iexact H
  ipureintro
  have h := View.read_write_univ (v := M.access wholeRect) f w
  exact (funext fun x => congrArg (M.view.read (Elt F) _) (whole_emb x).symm).trans h

theorem wp_loadSlot (d s : Bool) (c : Dev nD) (v : Vec64 F) (hl : (lndM d).view.LoadsAt (slotRect s).toLoadRect)
    (k : Vec F S1x64x8192 .f32 → KProg F) (Q : PUnit → sProp 𝕄) :
    iprop(holds (slotM d s) c fullShare v
        ∗ (∀ w, iprop(⌜shapeCast S64x8192 w shapeCasts_S1x64x8192_S64x8192 = v⌝ ∗ holds (slotM d s) c fullShare v) -∗ wpk c (k w) Q))
      ⊢ wpk c (.op (.load (lndM d) (slotRect s).toLoadRect hl) k) Q := by
  unfold holds
  iintro ⟨⟨%f, H, %hv⟩, Hk⟩
  have hset : (slotM d s).view.set = ((lndM d).access (slotRect s)).set := View.set_reshape _ _
  iapply (wp_load_rect (defs := defs₀ (F := F)) 𝒱₀ (c : Thread nD τ) none Set.univ (m := lndM d) (r := slotRect s) (S := (slotM d s).view.set) (f := f) hset.ge) $$ [H]
  · iexact H
  iintro H
  iapply Hk
  isplitr; · ipureintro; exact hv
  iexists f
  isplitl [H]; · iexact H
  ipureintro; exact hv

/-- The travelling chunk becomes the staged chunk plus what landed. -/
theorem wp_addStore (d s : Bool) (c : Dev nD) (u v w : Vec64 F) (k : KProg F) (Q : PUnit → sProp 𝕄) :
    iprop(holds (stgM d) c fullShare w ∗ holds (slotM d s) c fullShare v ∗ holds (accM d) c fullShare u
        ∗ ((owns (stgM d) c ∗ owns (slotM d s) c ∗ holds (accM d) c fullShare (addf w v)) -∗ wpk c k Q))
      ⊢ wpk c (addStore d s k) Q := by
  unfold addStore
  iintro ⟨Hw, Hv, Hu, Hk⟩
  iapply (wp_loadWhole (stgM d) c w)
  isplitl [Hw]; · iexact Hw
  iintro Hw
  iapply (wp_loadSlot d s c v)
  isplitl [Hv]; · iexact Hv
  iintro %v' ⟨%hv, Hv⟩
  iapply (wp_loadWhole (accM d) c u)
  isplitl [Hu]; · iexact Hu
  iintro Hu
  iapply (wp_storeWhole (accM d) c)
  isplitl [Hu]; · iapply (holds_owns (accM d) c u) $$ Hu
  iintro Hu
  iapply Hk
  isplitl [Hw]; · iapply (holds_owns (stgM d) c w) $$ Hw
  isplitl [Hv]; · iapply (holds_owns (slotM d s) c v) $$ Hv
  have he : addVal w v' = addf w v := by unfold addVal; rw [hv]; exact shapeCast_self _ _
  rw [he]
  iexact Hu

/-- The travelling chunk becomes what landed. -/
theorem wp_takeStore (d s : Bool) (c : Dev nD) (u v : Vec64 F) (k : KProg F) (Q : PUnit → sProp 𝕄) :
    iprop(holds (slotM d s) c fullShare v ∗ holds (accM d) c fullShare u
        ∗ ((owns (slotM d s) c ∗ holds (accM d) c fullShare v) -∗ wpk c k Q))
      ⊢ wpk c (takeStore d s k) Q := by
  unfold takeStore
  iintro ⟨Hv, Hu, Hk⟩
  iapply (wp_loadSlot d s c v)
  isplitl [Hv]; · iexact Hv
  iintro %v' ⟨%hv, Hv⟩
  iapply (wp_loadWhole (accM d) c u)
  isplitl [Hu]; · iexact Hu
  iintro Hu
  iapply (wp_storeWhole (accM d) c)
  isplitl [Hu]; · iapply (holds_owns (accM d) c u) $$ Hu
  iintro Hu
  iapply Hk
  isplitl [Hv]; · iapply (holds_owns (slotM d s) c v) $$ Hv
  have he : takeVal v' = v := by unfold takeVal; rw [hv]; exact shapeCast_self _ _
  rw [he]
  iexact Hu

end Cert.AllReduce
-- ==== Proof.Steps.lean ====
/-
  One step of the sixty-two, and all of them: what a device holds before step `g` it holds, for step `g + 1`, after it.
-/
module

public import proofs.«01_k».proof.Proof.Copies

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (p : Dev nD → Arr F)

/-! ## What a device holds, one direction at a time -/

/-- The direction's share of the own array. -/
def shareOf (d : Bool) : PosShare TreeShare := match d with | false => fullShare.left | true => fullShare.right

/-- What opens step `j`'s transfer: at a slot's first use the neighbour's slot itself, later the unit that will bring it. -/
def gate (d : Bool) (c : Dev nD) (j : ℕ) : sProp 𝕄 :=
  if j < 2 then iprop(owns (slotM d (slotOf j)) (toDev d c) ∗ reached ER (recvCell d (slotOf j) (toDev d c)) 0)
  else cred (tallyAt (credCell d (slotOf j) c) (j - 2) 1)
/-- The duty to give credit back at step `j`. -/
def creditTok (d : Bool) (c : Dev nD) (j : ℕ) : sProp 𝕄 :=
  if j < 60 then dutyTok ER (credCell d (slotOf j) (fromDev d c)) (j / 2) false else iprop(emp)
/-- The duties and units step `j` uses, besides its gate. -/
def stepToks (d : Bool) (c : Dev nD) (j : ℕ) : sProp 𝕄 :=
  iprop(dutyTok ER (sendCell d (slotOf j) c) (j / 2) false ∗ dutyTok ER (recvCell d (slotOf j) (toDev d c)) (j / 2) false
    ∗ cred (tallyAt (recvCell d (slotOf j) c) j N) ∗ creditTok d c j)
/-- The standing on a slot's three cells before the `n`-th use of the slot. -/
def slotPos (d s : Bool) (c : Dev nD) (n : ℕ) : sProp 𝕄 :=
  iprop(posn (sendCell d s c) n ∗ posn (recvCell d s c) n ∗ posn (credCell d s c) (n - 1))

/-- The staging buffer and the own array. -/
def stage (d : Bool) (c : Dev nD) : sProp 𝕄 :=
  iprop(owns (stgM d) c ∗ arrPts p c Finset.univ (shareOf d) ∗ semVal ((c : Thread nD τ), .dma (cpiS d)) 0)
/-- The direction's rows of the result array: before step `g` the chunks stored so far are the totals. -/
def outg (d : Bool) (c : Dev nD) (g : ℕ) : sProp 𝕄 :=
  iprop((∃ f, outPts d c f ∗ ⌜∀ j, 31 ≤ j → j ≤ g → chunkOf d (src d j c) f = total p d (src d j c)⌝)
    ∗ semVal ((c : Thread nD τ), .dma (cpoS d)) 0)

/-- What stays aside during step `g`. -/
def keep (d : Bool) (c : Dev nD) (g : ℕ) : sProp 𝕄 :=
  iprop(slotPos d (!slotOf g) c ((g + 1) / 2) ∗ bigSep (Finset.Ico (g + 1) 62) (fun j => iprop(gate d c j ∗ stepToks d c j))
    ∗ bigSep (Finset.Ico 60 g) (fun j => owns (slotM d (slotOf j)) c))
/-- All a device holds of a direction before step `g`. -/
def half (d : Bool) (c : Dev nD) (g : ℕ) : sProp 𝕄 :=
  iprop(holds (accM d) c fullShare (trav p d g c) ∗ stage p d c ∗ outg p d c g
    ∗ slotPos d (slotOf g) c (g / 2) ∗ slotPos d (!slotOf g) c ((g + 1) / 2)
    ∗ bigSep (Finset.Ico g 62) (fun j => iprop(gate d c j ∗ stepToks d c j))
    ∗ bigSep (Finset.Ico 60 g) (fun j => owns (slotM d (slotOf j)) c))

/-- The active part of a direction through a step: at its start, with the neighbour's slot in hand, with the transfer on
    its way, with both transfers over, with the new travelling chunk, and at its end. -/
def ph0 (d : Bool) (c : Dev nD) (g : ℕ) : sProp 𝕄 :=
  iprop(holds (accM d) c fullShare (trav p d g c) ∗ slotPos d (slotOf g) c (g / 2) ∗ gate d c g ∗ stepToks d c g)
def ph1 (d : Bool) (c : Dev nD) (g : ℕ) : sProp 𝕄 :=
  iprop(holds (accM d) c fullShare (trav p d g c)
    ∗ (posn (sendCell d (slotOf g) c) (g / 2) ∗ posn (recvCell d (slotOf g) c) (g / 2) ∗ posn (credCell d (slotOf g) c) (g / 2))
    ∗ owns (slotM d (slotOf g)) (toDev d c) ∗ reached ER (recvCell d (slotOf g) (toDev d c)) (g / 2) ∗ stepToks d c g)
def ph2 (d : Bool) (c : Dev nD) (g : ℕ) : sProp 𝕄 :=
  iprop((posn (sendCell d (slotOf g) c) (g / 2) ∗ posn (recvCell d (slotOf g) c) (g / 2) ∗ posn (credCell d (slotOf g) c) (g / 2))
    ∗ cred (tallyAt (sendCell d (slotOf g) c) 0 N) ∗ cred (tallyAt (recvCell d (slotOf g) c) g N) ∗ creditTok d c g)
def ph3 (d : Bool) (c : Dev nD) (g : ℕ) : sProp 𝕄 :=
  iprop(holds (accM d) c fullShare (trav p d g c) ∗ holds (slotM d (slotOf g)) c fullShare (trav p d g (fromDev d c))
    ∗ slotPos d (slotOf g) c (g / 2 + 1) ∗ reached ER (credCell d (slotOf g) (fromDev d c)) (g / 2) ∗ creditTok d c g)
def ph4 (d : Bool) (c : Dev nD) (g : ℕ) : sProp 𝕄 :=
  iprop(holds (accM d) c fullShare (trav p d (g + 1) c) ∗ owns (slotM d (slotOf g)) c
    ∗ slotPos d (slotOf g) c (g / 2 + 1) ∗ reached ER (credCell d (slotOf g) (fromDev d c)) (g / 2) ∗ creditTok d c g)
def ph5 (d : Bool) (c : Dev nD) (g : ℕ) : sProp 𝕄 :=
  iprop(holds (accM d) c fullShare (trav p d (g + 1) c) ∗ slotPos d (slotOf g) c (g / 2 + 1)
    ∗ if g < 60 then iprop(emp) else owns (slotM d (slotOf g)) c)

theorem slotOf_succ (g : ℕ) : slotOf (g + 1) = !slotOf g := by
  unfold slotOf
  rcases Nat.mod_two_eq_zero_or_one g with h | h
  · rw [h, show (g + 1) % 2 = 1 by omega]; rfl
  · rw [h, show (g + 1) % 2 = 0 by omega]; rfl

theorem bs_insert {a : ℕ} {s : Finset ℕ} {Φ : ℕ → sProp 𝕄} (h : a ∉ s) : bigSep (insert a s) Φ = iprop(Φ a ∗ bigSep s Φ) := bigSep_insert h

theorem half_open (d : Bool) (c : Dev nD) (g : ℕ) (hg : g < 62) : (half p d c g : sProp 𝕄) ⊢ iprop(ph0 p d c g ∗ stage p d c ∗ outg p d c g ∗ keep d c g) := by
  unfold half ph0 keep
  rw [ico_head hg, bs_insert (ico_fresh g 62)]
  iintro ⟨Ha, Hst, Ho, Hs, Hs', ⟨⟨Hg, Ht⟩, Hr⟩, Hb⟩
  isplitl [Ha Hs Hg Ht]
  · isplitl [Ha]; · iexact Ha
    isplitl [Hs]; · iexact Hs
    isplitl [Hg] <;> iassumption
  isplitl [Hst]; · iexact Hst
  isplitl [Ho]; · iexact Ho
  isplitl [Hs']; · iexact Hs'
  isplitl [Hr] <;> iassumption

theorem half_close (d : Bool) (c : Dev nD) (g : ℕ) : iprop(ph5 p d c g ∗ stage p d c ∗ outg p d c (g + 1) ∗ keep d c g) ⊢ (half p d c (g + 1) : sProp 𝕄) := by
  unfold half ph5 keep
  rw [slotOf_succ, Bool.not_not, show (g + 1 + 1) / 2 = g / 2 + 1 by omega]
  have hj : iprop((if g < 60 then iprop(emp) else owns (F := F) (slotM d (slotOf g)) c) ∗ bigSep (Finset.Ico 60 g) (fun j => owns (slotM d (slotOf j)) c))
      ⊢ bigSep (Finset.Ico 60 (g + 1)) (fun j => owns (F := F) (slotM d (slotOf j)) c) := by
    by_cases h : g < 60
    · rw [if_pos h, show Finset.Ico 60 (g + 1) = Finset.Ico 60 g by rw [Finset.Ico_eq_empty_of_le (by omega), Finset.Ico_eq_empty_of_le (by omega)]]
      iintro ⟨-, H⟩; iexact H
    · rw [if_neg h, ico_last (by omega : 60 ≤ g)]
      exact Entails.of_eq (bs_insert (Φ := fun j => owns (F := F) (slotM d (slotOf j)) c) (ico_fresh_last 60 g)).symm
  iintro ⟨⟨Ha, Hs, He⟩, Hst, Ho, Hs', Hr, Hb⟩
  isplitl [Ha]; · iexact Ha
  isplitl [Hst]; · iexact Hst
  isplitl [Ho]; · iexact Ho
  isplitl [Hs']; · iexact Hs'
  isplitl [Hs]; · iexact Hs
  isplitl [Hr]; · iexact Hr
  iapply hj
  isplitl [He] <;> iassumption

/-! ## The phases -/

theorem ph_gate (d : Bool) (c : Dev nD) (g : ℕ) (hg : g < 2) : (ph0 p d c g : sProp 𝕄) ⊢ ph1 p d c g := by
  unfold ph0 ph1 gate slotPos
  rw [if_pos hg, show g / 2 = 0 by omega]
  iintro ⟨Ha, Hs, ⟨Hg, Hr⟩, Ht⟩
  isplitl [Ha]; · iexact Ha
  isplitl [Hs]; · iexact Hs
  isplitl [Hg]; · iexact Hg
  isplitl [Hr] <;> iassumption

variable (K : GSem nD τ sig → ℕ)

theorem ph_wait (d : Bool) (c : Dev nD) (g : ℕ) (h2 : 2 ≤ g) (hg : g < 62) (O : CellTallies nD τ sig ℕ) (hO : Above (2 * g - 2) O) (k : KProg F) (Q : PUnit → sProp 𝕄) :
    iprop(ctx p K ∗ ph0 p d c g ∗ (∃ W, owes (c : Thread nD τ) O W) ∗ ((ph1 p d c g ∗ ∃ W, owes (c : Thread nD τ) O W) -∗ wpk c k Q))
      ⊢ wpk c (.op (.semWait (credS d (slotOf g)) 1) fun _ => k) Q := by
  unfold ph0 ph1 gate slotPos
  rw [if_neg (Nat.not_lt.mpr h2)]
  iintro ⟨#Hc, ⟨Ha, ⟨Hs, Hr, Hp⟩, Hg, Ht⟩, ⟨%W, HO⟩, Hk⟩
  iapply (wp_waitCred p K d g c h2 hg O W hO)
  isplitr; · iexact Hc
  isplitl [Hp]; · iexact Hp
  isplitl [Hg]; · iexact Hg
  isplitl [HO]; · iexact HO
  iintro ⟨Hp, Hn, Hrr, HO⟩
  iapply Hk
  isplitr [HO]
  · isplitl [Ha]; · iexact Ha
    isplitl [Hs Hr Hp]
    · isplitl [Hs]; · iexact Hs
      isplitl [Hr] <;> iassumption
    isplitl [Hn]; · iexact Hn
    isplitl [Hrr] <;> iassumption
  · iexact HO

theorem ph_start (d : Bool) (c : Dev nD) (g : ℕ) (hg : g < 62) (O : CellTallies nD τ sig ℕ) (k : KProg F) (Q : PUnit → sProp 𝕄) :
    iprop(ctx p K ∗ ph1 p d c g ∗ (∃ W, owes (c : Thread nD τ) (O + dueRecv d c g) W) ∗ ((ph2 d c g ∗ ∃ W, owes (c : Thread nD τ) O W) -∗ wpk c k Q))
      ⊢ wpk c (startSend d (slotOf g) c k) Q := by
  unfold ph1 ph2 stepToks posn
  iintro ⟨#Hc, ⟨Ha, ⟨⟨Hs, #Hs'⟩, ⟨Hr, #Hr'⟩, ⟨Hp, #Hp'⟩⟩, Hn, #Hrr, Ht1, Ht2, Hcr, Ht3⟩, ⟨%W, HO⟩, Hk⟩
  iapply (wp_startSend p K d g c hg O W)
  isplitr; · iexact Hc
  isplitl [Ha]; · iexact Ha
  isplitl [Hn]; · iexact Hn
  isplitl [Ht1]; · iexact Ht1
  isplitr; · iexact Hs'
  isplitl [Ht2]; · iexact Ht2
  isplitr; · iexact Hrr
  isplitr; · iexact Hp'
  isplitl [HO]; · iexact HO
  iintro ⟨Hcs, HO⟩
  iapply Hk
  isplitr [HO]
  · isplitl [Hs Hr Hp]
    · isplitl [Hs]; · isplitl [Hs]; · iexact Hs
                      iexact Hs'
      isplitl [Hr]; · isplitl [Hr]; · iexact Hr
                      iexact Hr'
      isplitl [Hp]; · iexact Hp
      iexact Hp'
    isplitl [Hcs]; · iexact Hcs
    isplitl [Hcr] <;> iassumption
  · iexists _; iexact HO

theorem ph_over (d : Bool) (c : Dev nD) (g : ℕ) (hg : g < 62) (O : CellTallies nD τ sig ℕ) (hO : Above (2 * g + 1) O) (k : KProg F) (Q : PUnit → sProp 𝕄) :
    iprop(ctx p K ∗ ph2 d c g ∗ (∃ W, owes (c : Thread nD τ) O W) ∗ ((ph3 p d c g ∗ ∃ W, owes (c : Thread nD τ) O W) -∗ wpk c k Q))
      ⊢ wpk c (waitSend d (slotOf g) k) Q := by
  unfold ph2 ph3 slotPos
  rw [Nat.add_sub_cancel]
  iintro ⟨#Hc, ⟨⟨Hs, Hr, Hp⟩, Hcs, Hcr, Ht⟩, ⟨%W, HO⟩, Hk⟩
  iapply (wp_waitSend p K d g c hg O W hO)
  isplitr; · iexact Hc
  isplitl [Hs]; · iexact Hs
  isplitl [Hr]; · iexact Hr
  isplitl [Hcs]; · iexact Hcs
  isplitl [Hcr]; · iexact Hcr
  isplitl [HO]; · iexact HO
  iintro ⟨Hs, Hr, Ha, Hl, Hrc, HO⟩
  iapply Hk
  isplitr [HO]
  · isplitl [Ha]; · iexact Ha
    isplitl [Hl]; · iexact Hl
    isplitl [Hs Hr Hp]
    · isplitl [Hs]; · iexact Hs
      isplitl [Hr] <;> iassumption
    isplitl [Hrc] <;> iassumption
  · iexact HO

theorem ph_add (d : Bool) (c : Dev nD) (g : ℕ) (hg : g < 31) (k : KProg F) (Q : PUnit → sProp 𝕄) :
    iprop(ph3 p d c g ∗ holds (stgM d) c fullShare (chunkOf d (src d (g + 1) c) (p c)) ∗ ((ph4 p d c g ∗ owns (stgM d) c) -∗ wpk c k Q))
      ⊢ wpk c (addStore d (slotOf g) k) Q := by
  unfold ph3 ph4
  rw [trav_add p d g c hg]
  iintro ⟨⟨Ha, Hl, Hs, Hr, Ht⟩, Hst, Hk⟩
  iapply (wp_addStore d (slotOf g) c)
  isplitl [Hst]; · iexact Hst
  isplitl [Hl]; · iexact Hl
  isplitl [Ha]; · iexact Ha
  iintro ⟨Hst, Hl, Ha⟩
  iapply Hk
  isplitr [Hst]
  · isplitl [Ha]; · iexact Ha
    isplitl [Hl]; · iexact Hl
    isplitl [Hs]; · iexact Hs
    isplitl [Hr] <;> iassumption
  · iexact Hst

theorem ph_take (d : Bool) (c : Dev nD) (g : ℕ) (hg : 31 ≤ g) (k : KProg F) (Q : PUnit → sProp 𝕄) :
    iprop(ph3 p d c g ∗ (ph4 p d c g -∗ wpk c k Q)) ⊢ wpk c (takeStore d (slotOf g) k) Q := by
  unfold ph3 ph4
  rw [trav_take p d g c hg]
  iintro ⟨⟨Ha, Hl, Hs, Hr, Ht⟩, Hk⟩
  iapply (wp_takeStore d (slotOf g) c)
  isplitl [Hl]; · iexact Hl
  isplitl [Ha]; · iexact Ha
  iintro ⟨Hl, Ha⟩
  iapply Hk
  isplitl [Ha]; · iexact Ha
  isplitl [Hl]; · iexact Hl
  isplitl [Hs]; · iexact Hs
  isplitl [Hr] <;> iassumption

theorem ph_give (d : Bool) (c : Dev nD) (g : ℕ) (hg : g < 60) (O : CellTallies nD τ sig ℕ) (k : KProg F) (Q : PUnit → sProp 𝕄) :
    iprop(ctx p K ∗ ph4 p d c g ∗ (∃ W, owes (c : Thread nD τ) (O + dueCred d c g) W) ∗ ((ph5 p d c g ∗ ∃ W, owes (c : Thread nD τ) O W) -∗ wpk c k Q))
      ⊢ wpk c (.op (.semSignal (Dev.tc (fromDev d c)) (credS d (slotOf g)) 1) fun _ => k) Q := by
  unfold ph4 ph5 creditTok slotPos posn
  rw [if_pos hg, if_pos hg]
  iintro ⟨#Hc, ⟨Ha, Hl, ⟨Hs, ⟨Hr, #Hr'⟩, Hp⟩, Hrc, Ht⟩, ⟨%W, HO⟩, Hk⟩
  iapply (wp_giveCred p K d g c hg O W)
  isplitr; · iexact Hc
  isplitl [Hl]; · iexact Hl
  isplitl [Ht]; · iexact Ht
  isplitr; · iexact Hr'
  isplitl [Hrc]; · iexact Hrc
  isplitl [HO]; · iexact HO
  iintro HO
  iapply Hk
  isplitr [HO]
  · isplitl [Ha]; · iexact Ha
    isplitl
    · isplitl [Hs]; · iexact Hs
      isplitl [Hr]; · isplitl [Hr]; · iexact Hr
                      iexact Hr'
      iexact Hp
    · iempintro
  · iexists _; iexact HO

theorem ph_last (d : Bool) (c : Dev nD) (g : ℕ) (hg : ¬ g < 60) : (ph4 p d c g : sProp 𝕄) ⊢ ph5 p d c g := by
  unfold ph4 ph5
  rw [if_neg hg]
  iintro ⟨Ha, Hl, Hs, -, -⟩
  isplitl [Ha]; · iexact Ha
  isplitl [Hs] <;> iassumption

/-- Both directions' travelling chunks into the result array. -/
theorem ph_put (c : Dev nD) (g : ℕ) (hg : 31 ≤ g + 1) (oa ob : Fin 2 → ℕ) (ha : InB oa) (hb : InB ob)
    (ea : oa = off false (src false (g + 1) c)) (eb : ob = off true (src true (g + 1) c))
    (O : CellTallies nD τ sig ℕ) (hO : Above 0 O) (k : KProg F) (Q : PUnit → sProp 𝕄) :
    iprop(ctx p K ∗ (holds (accM false) c fullShare (trav p false (g + 1) c) ∗ outg p false c g)
        ∗ (holds (accM true) c fullShare (trav p true (g + 1) c) ∗ outg p true c g) ∗ (∃ W, owes (c : Thread nD τ) O W)
        ∗ (((holds (accM false) c fullShare (trav p false (g + 1) c) ∗ outg p false c (g + 1))
            ∗ (holds (accM true) c fullShare (trav p true (g + 1) c) ∗ outg p true c (g + 1)) ∗ ∃ W, owes (c : Thread nD τ) O W) -∗ wpk c k Q))
      ⊢ wpk c (put2 oa ob ha hb k) Q := by
  have hv : ∀ d, trav p d (g + 1) c = total p d (src d (g + 1) c) := fun d => by
    obtain ⟨n, hn⟩ := Nat.exists_eq_add_of_le hg
    rw [hn]; exact trav_total p d n c
  have hj : ∀ (d : Bool) (f f' : Arr F), (∀ j, 31 ≤ j → j ≤ g → chunkOf d (src d j c) f = total p d (src d j c)) →
      (chunkOf d (src d (g + 1) c) f' = trav p d (g + 1) c ∧ ∀ i, i ≠ src d (g + 1) c → chunkOf d i f' = chunkOf d i f) →
      ∀ j, 31 ≤ j → j ≤ g + 1 → chunkOf d (src d j c) f' = total p d (src d j c) := fun d f f' h h' j h31 hjg => by
    by_cases he : src d j c = src d (g + 1) c
    · rw [he, h'.1, hv]
    · rw [h'.2 _ he]
      refine h j h31 ?_
      rcases Nat.lt_or_ge g j with hlt | hge
      · exact absurd (by rw [show j = g + 1 by omega]) he
      · exact hge
  unfold put2 outg
  iintro ⟨#Hc, ⟨Ha, ⟨⟨%f, Hf, %hf⟩, Hsf⟩⟩, ⟨Hb, ⟨⟨%f', Hf', %hf'⟩, Hsf'⟩⟩, ⟨%W, HO⟩, Hk⟩
  iapply (wp_startPut false (src false (g + 1) c) c _ f oa ha ea)
  isplitl [Hf]; · iexact Hf
  isplitl [Ha]; · iexact Ha
  isplitl [Hsf]; · iexact Hsf
  iintro Hpa
  iapply (wp_startPut true (src true (g + 1) c) c _ f' ob hb eb)
  isplitl [Hf']; · iexact Hf'
  isplitl [Hb]; · iexact Hb
  isplitl [Hsf']; · iexact Hsf'
  iintro Hpb
  iapply (wp_waitPut p K false (src false (g + 1) c) c _ f oa ha O W hO)
  isplitr; · iexact Hc
  isplitl [Hpa]; · iexact Hpa
  isplitl [HO]; · iexact HO
  iintro ⟨⟨%h, Hf, %hh⟩, Ha, Hsf, ⟨%W', HO⟩⟩
  iapply (wp_waitPut p K true (src true (g + 1) c) c _ f' ob hb O W' hO)
  isplitr; · iexact Hc
  isplitl [Hpb]; · iexact Hpb
  isplitl [HO]; · iexact HO
  iintro ⟨⟨%h', Hf', %hh'⟩, Hb, Hsf', HO⟩
  iapply Hk
  isplitl [Ha Hf Hsf]
  · isplitl [Ha]; · iexact Ha
    isplitl [Hf]
    · iexists h
      isplitl [Hf]; · iexact Hf
      ipureintro; exact hj false f h hf hh
    · iexact Hsf
  isplitl [Hb Hf' Hsf']
  · isplitl [Hb]; · iexact Hb
    isplitl [Hf']
    · iexists h'
      isplitl [Hf']; · iexact Hf'
      ipureintro; exact hj true f' h' hf' hh'
    · iexact Hsf'
  · iexact HO

theorem outg_early (d : Bool) (c : Dev nD) (g : ℕ) (hg : g < 30) : (outg p d c g : sProp 𝕄) ⊢ outg p d c (g + 1) := by
  unfold outg
  iintro ⟨⟨%f, Hf, -⟩, Hs⟩
  isplitl [Hf]
  · iexists f
    isplitl [Hf]; · iexact Hf
    ipureintro; intro j h h'; omega
  · iexact Hs

/-! ## A step's parts, both directions -/

theorem core_rs (c : Dev nD) (g : ℕ) (hg : g < 31) (O : CellTallies nD τ sig ℕ) (hO : Above (2 * g + 1) O) (k : KProg F) (Q : PUnit → sProp 𝕄) :
    iprop(ctx p K ∗ (ph1 p false c g ∗ stage p false c) ∗ (ph1 p true c g ∗ stage p true c)
        ∗ (∃ W, owes (c : Thread nD τ) (O + dueRecv true c g + dueRecv false c g) W)
        ∗ (((ph4 p false c g ∗ stage p false c) ∗ (ph4 p true c g ∗ stage p true c) ∗ ∃ W, owes (c : Thread nD τ) O W) -∗ wpk c k Q))
      ⊢ wpk c (coreRS g (slotOf g) c k) Q := by
  unfold coreRS stage
  iintro ⟨#Hc, ⟨Ha, Hga, Hpa, Hsa⟩, ⟨Hb, Hgb, Hpb, Hsb⟩, HO, Hk⟩
  iapply (ph_start p K false c g (by omega) (O + dueRecv true c g))
  isplitr; · iexact Hc
  isplitl [Ha]; · iexact Ha
  isplitl [HO]; · iexact HO
  iintro ⟨Ha, HO⟩
  iapply (ph_start p K true c g (by omega) O)
  isplitr; · iexact Hc
  isplitl [Hb]; · iexact Hb
  isplitl [HO]; · iexact HO
  iintro ⟨Hb, HO⟩
  iapply (wp_startFetch p false (stgM false) _ rfl (shareOf false) (src false (g + 1) c) c _ _ (addOff_eq false c g hg))
  isplitl [Hpa]; · iexact Hpa
  isplitl [Hga]; · iexact Hga
  isplitl [Hsa]; · iexact Hsa
  iintro Hfa
  iapply (wp_startFetch p true (stgM true) _ rfl (shareOf true) (src true (g + 1) c) c _ _ (addOff_eq true c g hg))
  isplitl [Hpb]; · iexact Hpb
  isplitl [Hgb]; · iexact Hgb
  isplitl [Hsb]; · iexact Hsb
  iintro Hfb
  iapply (ph_over p K false c g (by omega) O hO)
  isplitr; · iexact Hc
  isplitl [Ha]; · iexact Ha
  isplitl [HO]; · iexact HO
  iintro ⟨Ha, HO⟩
  iapply (ph_over p K true c g (by omega) O hO)
  isplitr; · iexact Hc
  isplitl [Hb]; · iexact Hb
  isplitl [HO]; · iexact HO
  iintro ⟨Hb, ⟨%W, HO⟩⟩
  iapply (wp_waitFetch p K false (stgM false) _ rfl (shareOf false) (src false (g + 1) c) c _ _ O W (hO.mono (Nat.zero_le _)))
  isplitr; · iexact Hc
  isplitl [Hfa]; · iexact Hfa
  isplitl [HO]; · iexact HO
  iintro ⟨Hga, Hpa, Hsa, ⟨%W', HO⟩⟩
  iapply (wp_waitFetch p K true (stgM true) _ rfl (shareOf true) (src true (g + 1) c) c _ _ O W' (hO.mono (Nat.zero_le _)))
  isplitr; · iexact Hc
  isplitl [Hfb]; · iexact Hfb
  isplitl [HO]; · iexact HO
  iintro ⟨Hgb, Hpb, Hsb, HO⟩
  iapply (ph_add p false c g hg)
  isplitl [Ha]; · iexact Ha
  isplitl [Hga]; · iexact Hga
  iintro ⟨Ha, Hga⟩
  iapply (ph_add p true c g hg)
  isplitl [Hb]; · iexact Hb
  isplitl [Hgb]; · iexact Hgb
  iintro ⟨Hb, Hgb⟩
  iapply Hk
  isplitl [Ha Hga Hpa Hsa]
  · isplitl [Ha]; · iexact Ha
    isplitl [Hga]; · iexact Hga
    isplitl [Hpa] <;> iassumption
  isplitl [Hb Hgb Hpb Hsb]
  · isplitl [Hb]; · iexact Hb
    isplitl [Hgb]; · iexact Hgb
    isplitl [Hpb] <;> iassumption
  iexact HO

theorem ph4_put (d : Bool) (c : Dev nD) (g : ℕ) : (ph4 p d c g : sProp 𝕄) ⊢ iprop(holds (accM d) c fullShare (trav p d (g + 1) c)
    ∗ (holds (accM d) c fullShare (trav p d (g + 1) c) -∗ ph4 p d c g)) := by
  unfold ph4
  iintro ⟨Ha, H⟩
  isplitl [Ha]; · iexact Ha
  iintro Ha
  isplitl [Ha] <;> iassumption
theorem ph5_put (d : Bool) (c : Dev nD) (g : ℕ) : (ph5 p d c g : sProp 𝕄) ⊢ iprop(holds (accM d) c fullShare (trav p d (g + 1) c)
    ∗ (holds (accM d) c fullShare (trav p d (g + 1) c) -∗ ph5 p d c g)) := by
  unfold ph5
  iintro ⟨Ha, H⟩
  isplitl [Ha]; · iexact Ha
  iintro Ha
  isplitl [Ha] <;> iassumption

theorem core_ag (c : Dev nD) (g : ℕ) (hg : 31 ≤ g) (hg2 : g < 62) (O : CellTallies nD τ sig ℕ) (hO : Above (2 * g + 1) O) (k : KProg F) (Q : PUnit → sProp 𝕄) :
    iprop(ctx p K ∗ (ph1 p false c g ∗ outg p false c g) ∗ (ph1 p true c g ∗ outg p true c g)
        ∗ (∃ W, owes (c : Thread nD τ) (O + dueRecv true c g + dueRecv false c g) W)
        ∗ (((ph4 p false c g ∗ outg p false c (g + 1)) ∗ (ph4 p true c g ∗ outg p true c (g + 1)) ∗ ∃ W, owes (c : Thread nD τ) O W) -∗ wpk c k Q))
      ⊢ wpk c (coreAG (g - 31) (slotOf g) c k) Q := by
  have he : ∀ d, putOff d c (g - 31) = off d (src d (g + 1) c) := fun d => by
    rw [putOff_eq d c (g - 31) (by omega), show g - 31 + 32 = g + 1 by omega]
  unfold coreAG
  iintro ⟨#Hc, ⟨Ha, Hga⟩, ⟨Hb, Hgb⟩, HO, Hk⟩
  iapply (ph_start p K false c g (by omega) (O + dueRecv true c g))
  isplitr; · iexact Hc
  isplitl [Ha]; · iexact Ha
  isplitl [HO]; · iexact HO
  iintro ⟨Ha, HO⟩
  iapply (ph_start p K true c g (by omega) O)
  isplitr; · iexact Hc
  isplitl [Hb]; · iexact Hb
  isplitl [HO]; · iexact HO
  iintro ⟨Hb, HO⟩
  iapply (ph_over p K false c g (by omega) O hO)
  isplitr; · iexact Hc
  isplitl [Ha]; · iexact Ha
  isplitl [HO]; · iexact HO
  iintro ⟨Ha, HO⟩
  iapply (ph_over p K true c g (by omega) O hO)
  isplitr; · iexact Hc
  isplitl [Hb]; · iexact Hb
  isplitl [HO]; · iexact HO
  iintro ⟨Hb, HO⟩
  iapply (ph_take p false c g hg)
  isplitl [Ha]; · iexact Ha
  iintro Ha
  iapply (ph_take p true c g hg)
  isplitl [Hb]; · iexact Hb
  iintro Hb
  ihave Ha2 := (ph4_put p false c g) $$ Ha
  ihave Hb2 := (ph4_put p true c g) $$ Hb
  icases Ha2 with ⟨Ha, Ra⟩
  icases Hb2 with ⟨Hb, Rb⟩
  iapply (ph_put p K c g (by omega) _ _ _ _ (he false) (he true) O (hO.mono (Nat.zero_le _)))
  isplitr; · iexact Hc
  isplitl [Ha Hga]; · isplitl [Ha] <;> iassumption
  isplitl [Hb Hgb]; · isplitl [Hb] <;> iassumption
  isplitl [HO]; · iexact HO
  iintro ⟨⟨Ha, Hga⟩, ⟨Hb, Hgb⟩, HO⟩
  iapply Hk
  isplitl [Ha Ra Hga]
  · isplitl [Ha Ra]; · iapply Ra; iexact Ha
    iexact Hga
  isplitl [Hb Rb Hgb]
  · isplitl [Hb Rb]; · iapply Rb; iexact Hb
    iexact Hgb
  iexact HO

/-- The credit waits, where there are any. -/
theorem credit_in (c : Dev nD) (g : ℕ) (hg : g < 62) (O : CellTallies nD τ sig ℕ) (hO : Above (2 * g - 2) O) (k : KProg F) (Q : PUnit → sProp 𝕄) :
    iprop(ctx p K ∗ ph0 p false c g ∗ ph0 p true c g ∗ (∃ W, owes (c : Thread nD τ) O W)
        ∗ ((ph1 p false c g ∗ ph1 p true c g ∗ ∃ W, owes (c : Thread nD τ) O W) -∗ wpk c k Q))
      ⊢ wpk c ((if 2 ≤ g then waitCredit (slotOf g) else id) k) Q := by
  by_cases h : 2 ≤ g
  · rw [if_pos h]
    unfold waitCredit
    iintro ⟨#Hc, Ha, Hb, HO, Hk⟩
    iapply (ph_wait p K false c g h hg O hO)
    isplitr; · iexact Hc
    isplitl [Ha]; · iexact Ha
    isplitl [HO]; · iexact HO
    iintro ⟨Ha, HO⟩
    iapply (ph_wait p K true c g h hg O hO)
    isplitr; · iexact Hc
    isplitl [Hb]; · iexact Hb
    isplitl [HO]; · iexact HO
    iintro ⟨Hb, HO⟩
    iapply Hk
    isplitl [Ha]; · iexact Ha
    isplitl [Hb] <;> iassumption
  · rw [if_neg h]
    iintro ⟨-, Ha, Hb, HO, Hk⟩
    iapply Hk
    isplitl [Ha]; · iapply (ph_gate p false c g (by omega)) $$ Ha
    isplitl [Hb]; · iapply (ph_gate p true c g (by omega)) $$ Hb
    iexact HO

/-- The credit signals, where there are any. -/
theorem credit_out (c : Dev nD) (g : ℕ) (hg : g < 62) (O : CellTallies nD τ sig ℕ) (k : KProg F) (Q : PUnit → sProp 𝕄) :
    iprop(ctx p K ∗ ph4 p false c g ∗ ph4 p true c g ∗ (∃ W, owes (c : Thread nD τ) (O + dueCreds c g) W)
        ∗ ((ph5 p false c g ∗ ph5 p true c g ∗ ∃ W, owes (c : Thread nD τ) O W) -∗ wpk c k Q))
      ⊢ wpk c ((if g < 60 then giveCredit (slotOf g) c else id) k) Q := by
  by_cases h : g < 60
  · rw [if_pos h]
    show _ ⊢ wpk c (.op (.semSignal (Dev.tc (fromDev false c)) (credS false (slotOf g)) 1) fun _ =>
      .op (.semSignal (Dev.tc (fromDev true c)) (credS true (slotOf g)) 1) fun _ => k) Q
    unfold dueCreds
    rw [← add_assoc]
    iintro ⟨#Hc, Ha, Hb, HO, Hk⟩
    iapply (ph_give p K false c g h (O + dueCred true c g))
    isplitr; · iexact Hc
    isplitl [Ha]; · iexact Ha
    isplitl [HO]; · iexact HO
    iintro ⟨Ha, HO⟩
    iapply (ph_give p K true c g h O)
    isplitr; · iexact Hc
    isplitl [Hb]; · iexact Hb
    isplitl [HO]; · iexact HO
    iintro ⟨Hb, HO⟩
    iapply Hk
    isplitl [Ha]; · iexact Ha
    isplitl [Hb] <;> iassumption
  · rw [if_neg h, show dueCreds c g = 0 by unfold dueCreds dueCred; rw [if_neg h, if_neg h, add_zero], add_zero]
    iintro ⟨-, Ha, Hb, HO, Hk⟩
    iapply Hk
    isplitl [Ha]; · iapply (ph_last p false c g h) $$ Ha
    isplitl [Hb]; · iapply (ph_last p true c g h) $$ Hb
    iexact HO

/-- Step `g`. -/
theorem step_run (c : Dev nD) (g : ℕ) (hg : g < 62) (k : KProg F) (Q : PUnit → sProp 𝕄) :
    iprop(ctx p K ∗ half p false c g ∗ half p true c g ∗ (∃ W, owes (c : Thread nD τ) (owed c g) W)
        ∗ ((half p false c (g + 1) ∗ half p true c (g + 1) ∗ ∃ W, owes (c : Thread nD τ) (owed c (g + 1)) W) -∗ wpk c k Q))
      ⊢ wpk c (step g c k) Q := by
  have hO : Above (2 * g + 1) (owed c (g + 1) + dueCreds c g) := (above_owed c (g + 1) (by omega)).add (above_creds c g hg (by omega))
  have h0 : Above (2 * g - 2) (owed c (g + 1) + dueCreds c g + dueRecv true c g + dueRecv false c g) := by
    rw [← owed_step c g hg]; exact above_owed c g (by omega)
  unfold step
  rw [owed_step c g hg]
  iintro ⟨#Hc, Ha, Hb, HO, Hk⟩
  ihave Ha := (half_open p false c g hg) $$ Ha
  ihave Hb := (half_open p true c g hg) $$ Hb
  icases Ha with ⟨Ha, Hsa, Hoa, Hka⟩
  icases Hb with ⟨Hb, Hsb, Hob, Hkb⟩
  iapply (credit_in p K c g hg _ h0)
  isplitr; · iexact Hc
  isplitl [Ha]; · iexact Ha
  isplitl [Hb]; · iexact Hb
  isplitl [HO]; · iexact HO
  iintro ⟨Ha, Hb, HO⟩
  by_cases h31 : g < 31
  · rw [if_pos h31]
    iapply (core_rs p K c g h31 _ hO)
    isplitr; · iexact Hc
    isplitl [Ha Hsa]; · isplitl [Ha] <;> iassumption
    isplitl [Hb Hsb]; · isplitl [Hb] <;> iassumption
    isplitl [HO]; · iexact HO
    iintro ⟨⟨Ha, Hsa⟩, ⟨Hb, Hsb⟩, HO⟩
    iapply (credit_out p K c g hg)
    isplitr; · iexact Hc
    isplitl [Ha]; · iexact Ha
    isplitl [Hb]; · iexact Hb
    isplitl [HO]; · iexact HO
    iintro ⟨Ha, Hb, HO⟩
    by_cases h30 : g = 30
    · rw [if_pos h30]
      ihave Ha2 := (ph5_put p false c g) $$ Ha
      ihave Hb2 := (ph5_put p true c g) $$ Hb
      icases Ha2 with ⟨Ha, Ra⟩
      icases Hb2 with ⟨Hb, Rb⟩
      iapply (ph_put p K c g (by omega) _ _ _ _ (by rw [sumOff_eq, h30]) (by rw [sumOff_eq, h30]) (owed c (g + 1)) (above_owed c (g + 1) (by omega)))
      isplitr; · iexact Hc
      isplitl [Ha Hoa]; · isplitl [Ha] <;> iassumption
      isplitl [Hb Hob]; · isplitl [Hb] <;> iassumption
      isplitl [HO]; · iexact HO
      iintro ⟨⟨Ha, Hoa⟩, ⟨Hb, Hob⟩, HO⟩
      iapply Hk
      isplitl [Ha Ra Hsa Hoa Hka]
      · iapply (half_close p false c g)
        isplitl [Ha Ra]; · iapply Ra; iexact Ha
        isplitl [Hsa]; · iexact Hsa
        isplitl [Hoa] <;> iassumption
      isplitl [Hb Rb Hsb Hob Hkb]
      · iapply (half_close p true c g)
        isplitl [Hb Rb]; · iapply Rb; iexact Hb
        isplitl [Hsb]; · iexact Hsb
        isplitl [Hob] <;> iassumption
      iexact HO
    · rw [if_neg h30]
      iapply Hk
      isplitl [Ha Hsa Hoa Hka]
      · iapply (half_close p false c g)
        isplitl [Ha]; · iexact Ha
        isplitl [Hsa]; · iexact Hsa
        isplitl [Hoa]; · iapply (outg_early p false c g (by omega)) $$ Hoa
        iexact Hka
      isplitl [Hb Hsb Hob Hkb]
      · iapply (half_close p true c g)
        isplitl [Hb]; · iexact Hb
        isplitl [Hsb]; · iexact Hsb
        isplitl [Hob]; · iapply (outg_early p true c g (by omega)) $$ Hob
        iexact Hkb
      iexact HO
  · rw [if_neg h31, if_neg (show ¬ g = 30 by omega)]
    iapply (core_ag p K c g (by omega) hg _ hO)
    isplitr; · iexact Hc
    isplitl [Ha Hoa]; · isplitl [Ha] <;> iassumption
    isplitl [Hb Hob]; · isplitl [Hb] <;> iassumption
    isplitl [HO]; · iexact HO
    iintro ⟨⟨Ha, Hoa⟩, ⟨Hb, Hob⟩, HO⟩
    iapply (credit_out p K c g hg)
    isplitr; · iexact Hc
    isplitl [Ha]; · iexact Ha
    isplitl [Hb]; · iexact Hb
    isplitl [HO]; · iexact HO
    iintro ⟨Ha, Hb, HO⟩
    iapply Hk
    isplitl [Ha Hsa Hoa Hka]
    · iapply (half_close p false c g)
      isplitl [Ha]; · iexact Ha
      isplitl [Hsa]; · iexact Hsa
      isplitl [Hoa] <;> iassumption
    isplitl [Hb Hsb Hob Hkb]
    · iapply (half_close p true c g)
      isplitl [Hb]; · iexact Hb
      isplitl [Hsb]; · iexact Hsb
      isplitl [Hob] <;> iassumption
    iexact HO

/-- The last `n` steps. -/
theorem steps_run (c : Dev nD) (Q : PUnit → sProp 𝕄) (n g : ℕ) (h : g + n = 62) :
    iprop(ctx p K ∗ half p false c g ∗ half p true c g ∗ (∃ W, owes (c : Thread nD τ) (owed c g) W)
        ∗ ((half p false c 62 ∗ half p true c 62 ∗ ∃ W, owes (c : Thread nD τ) 0 W) -∗ wpk c (.ret ⟨⟩) Q))
      ⊢ wpk c (steps c n g) Q := by
  induction n generalizing g with
  | zero =>
    obtain rfl : g = 62 := h
    rw [owed_end]
    unfold steps
    iintro ⟨-, Ha, Hb, HO, Hk⟩
    iapply Hk
    isplitl [Ha]; · iexact Ha
    isplitl [Hb] <;> iassumption
  | succ n ih =>
    unfold steps
    iintro ⟨#Hc, Ha, Hb, HO, Hk⟩
    iapply (step_run p K c g (by omega))
    isplitr; · iexact Hc
    isplitl [Ha]; · iexact Ha
    isplitl [Hb]; · iexact Hb
    isplitl [HO]; · iexact HO
    iintro ⟨Ha, Hb, HO⟩
    iapply (ih (g + 1) (by omega))
    isplitr; · iexact Hc
    isplitl [Ha]; · iexact Ha
    isplitl [Hb]; · iexact Hb
    isplitl [HO]; · iexact HO
    iexact Hk

end Cert.AllReduce
-- ==== Proof.Entry.lean ====
/-
  The whole kernel on one device: the entry handshake, the own chunks fetched, the sixty-two steps, and at the end every
  cell's counter back at zero and the result array holding the totals.
-/
module

public import proofs.«01_k».proof.Proof.Steps

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (p : Dev nD → Arr F)

/-! ## Before and after -/

/-- A direction's chunk buffers, its part of the two arrays and its duties and units, at the start. -/
def base (d : Bool) (c : Dev nD) : sProp 𝕄 :=
  iprop(owns (accM d) c ∗ stage p d c ∗ (∃ f, outPts d c f) ∗ semVal ((c : Thread nD τ), .dma (cpoS d)) 0
    ∗ slotPos d false c 0 ∗ slotPos d true c 0
    ∗ bigSep (Finset.Ico 0 62) (stepToks d c) ∗ bigSep (Finset.Ico 2 62) (fun j => cred (tallyAt (credCell d (slotOf j) c) (j - 2) 1)))
/-- What a direction hands over in the handshake: the own slots, and the duty to the barrier of the device it receives from. -/
def hello (d : Bool) (c : Dev nD) : sProp 𝕄 :=
  iprop(owns (slotM d false) c ∗ owns (slotM d true) c ∗ dutyTok ER (barCell (fromDev d c)) 0 d ∗ reached ER (barCell (fromDev d c)) 0)
/-- A slot's three counters at zero. -/
def slotZero (d s : Bool) (c : Dev nD) : sProp 𝕄 :=
  iprop(semVal (sendCell d s c) 0 ∗ semVal (recvCell d s c) 0 ∗ semVal (credCell d s c) 0)
/-- A direction at the end: all buffers back, its rows of the result array the totals, every counter at zero. -/
def done (d : Bool) (c : Dev nD) : sProp 𝕄 :=
  iprop(owns (accM d) c ∗ stage p d c ∗ outPts d c (outF p) ∗ semVal ((c : Thread nD τ), .dma (cpoS d)) 0
    ∗ owns (slotM d false) c ∗ owns (slotM d true) c ∗ slotZero d false c ∗ slotZero d true c)

/-! ## The handshake -/

theorem bs_bool (Φ : Bool → sProp 𝕄) : bigSep Finset.univ Φ = iprop(Φ false ∗ Φ true) := by
  rw [show (Finset.univ : Finset Bool) = insert false {true} by decide, BI.bigSep_insert (by decide), BI.bigSep_singleton]; rfl

/-- A barrier's whole round pays both neighbours' slots. -/
theorem rest_bar (c : Dev nD) :
    bigSep ((rd p).duties (barCell c) 0 \ ∅) (fun u => (rd p).payload (barCell c) 0 u) = iprop(barPay (F := F) false c ∗ barPay true c) := by
  rw [Finset.sdiff_empty, duties_bar, bs_bool, payload_bar, payload_bar]

/-- The standing on a slot's cells shows its receive cell open. -/
theorem slotPos_open (d s : Bool) (c : Dev nD) : (slotPos d s c 0 : sProp 𝕄) ⊢ iprop(slotPos d s c 0 ∗ reached ER (recvCell d s c) 0) := by
  unfold slotPos posn
  iintro ⟨H1, ⟨H2, #Hr⟩, H3⟩
  isplitl [H1 H2 H3]
  · isplitl [H1]; · iexact H1
    isplitl [H2]
    · isplitl [H2]; · iexact H2
      iexact Hr
    iexact H3
  iexact Hr

/-- One signal of the handshake: direction `d`'s own slots go to the device it receives from. -/
theorem wp_hello (K : GSem nD τ sig → ℕ) (d : Bool) (c : Dev nD) (O : CellTallies nD τ sig ℕ) (W : Waits sig ℕ) (k : KProg F) (Q : PUnit → sProp 𝕄) :
    iprop(ctx p K ∗ base p d c ∗ hello d c ∗ owes (c : Thread nD τ) (O + tallyAt (barCell (fromDev d c)) 0 1) W
        ∗ ((base p d c ∗ owes (c : Thread nD τ) O W) -∗ wpk c k Q))
      ⊢ wpk c (.op (.semSignal (Dev.tc (fromDev d c)) barrier0 1) fun _ => k) Q := by
  unfold base hello
  iintro ⟨#Hc, ⟨Ha, Hst, Ho, Hv, Hp0, Hp1, Ht, Hcr⟩, ⟨Hs0, Hs1, Htok, Hrb⟩, HO, Hk⟩
  ihave Hq0 := (slotPos_open (F := F) d false c) $$ Hp0
  ihave Hq1 := (slotPos_open (F := F) d true c) $$ Hp1
  icases Hq0 with ⟨Hp0, Hr0⟩
  icases Hq1 with ⟨Hp1, Hr1⟩
  iapply (Rounds.wp_signal 𝒱₀ ER (rd p) (c : Thread nD τ) none (dst := (fromDev d c : Thread nD τ)) (sem := barrier0) (r := 0) (d := d)
      (κ := K (barCell (fromDev d c)))
      (by rw [duties_bar p]; exact Finset.mem_univ _) (amount_bar p _ _ _) 0 (O₀ := O + tallyAt (barCell (fromDev d c)) 0 1) O rfl)
    $$ [HO Htok Hs0 Hs1 Hr0 Hr1 Hrb]
  · isplitr; · iapply (ctx_bar p K) $$ Hc
    isplitl [HO]; · iexact HO
    isplitl [Htok]; · iexact Htok
    isplitl [Hs0 Hs1 Hr0 Hr1]
    · rw [payload_bar]; unfold barPay; rw [to_from]
      isplitl [Hs0 Hr0]
      · isplitl [Hs0] <;> iassumption
      · isplitl [Hs1] <;> iassumption
    · iexact Hrb
  iintro HO
  iapply Hk
  isplitr [HO]
  · isplitl [Ha]; · iexact Ha
    isplitl [Hst]; · iexact Hst
    isplitl [Ho]; · iexact Ho
    isplitl [Hv]; · iexact Hv
    isplitl [Hp0]; · iexact Hp0
    isplitl [Hp1]; · iexact Hp1
    isplitl [Ht] <;> iassumption
  · iexact HO

/-- The handshake's wait: both neighbours' slots arrive. -/
theorem wp_meet (K : GSem nD τ sig → ℕ) (c : Dev nD) (O : CellTallies nD τ sig ℕ) (W : Waits sig ℕ) (hO : Above 0 O) (k : KProg F) (Q : PUnit → sProp 𝕄) :
    iprop(ctx p K ∗ posn (barCell c) 0 ∗ cred (tallyAt (barCell c) 0 2) ∗ owes (c : Thread nD τ) O W
        ∗ ((barPay false c ∗ barPay true c ∗ posn (barCell c) 1 ∗ ∃ W, owes (c : Thread nD τ) O W) -∗ wpk c k Q))
      ⊢ wpk c (.op (.semWait barrier0 2) fun _ => k) Q := by
  have hmw := ctx_mayWait p K c (.reg barrier0) 0 (by omega) O (b := 0) (by unfold lv; rw [role_bar]) hO
  unfold posn
  iintro ⟨#Hc, ⟨Hat, -⟩, Hcr, HO, Hk⟩
  iapply (Rounds.wp_wait_rest_token 𝒱₀ ER (rd p) (c : Thread nD τ) none (κ := K (barCell c))
      (wpE_semWait_eq 𝒱₀ (c : Thread nD τ) none Set.univ) (Set.mem_univ _) 0 (O := O) (W := W) (R := 0) (m := 0) (T := ∅)
      ((Nat.zero_add 2).trans (expect_bar p c).symm)) $$ [Hcr HO Hat]
  · isplitr; · iapply (ctx_bar p K) $$ Hc
    isplitl [Hcr]; · iexact Hcr
    isplitl [HO]; · iexact HO
    isplitr; · iapply hmw $$ Hc
    iexact Hat
  iintro ⟨HO, Hat, Hr, Hpay⟩
  ihave Hp := (Entails.of_eq (rest_bar p c)) $$ Hpay
  icases Hp with ⟨Hf, Ht⟩
  iapply Hk
  isplitl [Hf]; · iexact Hf
  isplitl [Ht]; · iexact Ht
  isplitl [Hat Hr]
  · isplitl [Hat] <;> iassumption
  iexists _; iexact HO

/-! ## The first step's holdings -/

/-- The two slots and the later units of credit are the gates of all steps. -/
theorem gates (d : Bool) (c : Dev nD) :
    iprop(barPay d c ∗ bigSep (Finset.Ico 2 62) (fun j => (cred (tallyAt (credCell d (slotOf j) c) (j - 2) 1) : sProp 𝕄)))
      ⊢ bigSep (Finset.Ico 0 62) (gate (F := F) d c) := by
  have h : bigSep (Finset.Ico 2 62) (fun j => (cred (tallyAt (credCell d (slotOf j) c) (j - 2) 1) : sProp 𝕄)) = bigSep (Finset.Ico 2 62) (gate (F := F) d c) :=
    bigSep_congr fun j hj => by unfold gate; rw [if_neg (by have := Finset.mem_Ico.mp hj; omega)]
  rw [h, ico_head (show 0 < 62 by omega), bs_insert (ico_fresh 0 62), ico_head (show 0 + 1 < 62 by omega), bs_insert (ico_fresh (0 + 1) 62)]
  rw [show gate (F := F) d c 0 = iprop(owns (slotM d false) (toDev d c) ∗ reached ER (recvCell d false (toDev d c)) 0) from if_pos (by omega),
    show gate (F := F) d c (0 + 1) = iprop(owns (slotM d true) (toDev d c) ∗ reached ER (recvCell d true (toDev d c)) 0) from if_pos (by omega)]
  unfold barPay
  iintro ⟨⟨H0, H1⟩, H⟩
  isplitl [H0]; · iexact H0
  isplitl [H1]; · iexact H1
  iexact H

/-- With the own chunk fetched, a direction is ready for step 0. -/
theorem half_start (d : Bool) (c : Dev nD) :
    iprop(holds (accM d) c fullShare (chunkOf d c (p c)) ∗ stage p d c ∗ (∃ f, outPts d c f) ∗ semVal ((c : Thread nD τ), .dma (cpoS d)) 0
        ∗ slotPos d false c 0 ∗ slotPos d true c 0 ∗ bigSep (Finset.Ico 0 62) (stepToks d c)
        ∗ bigSep (Finset.Ico 2 62) (fun j => cred (tallyAt (credCell d (slotOf j) c) (j - 2) 1)) ∗ barPay d c)
      ⊢ (half p d c 0 : sProp 𝕄) := by
  unfold half
  rw [show bigSep (Finset.Ico 0 62) (fun j => iprop(gate d c j ∗ stepToks (F := F) d c j))
      = iprop(bigSep (Finset.Ico 0 62) (gate d c) ∗ bigSep (Finset.Ico 0 62) (stepToks (F := F) d c)) from bigSep_sep _ _ _,
    Finset.Ico_eq_empty_of_le (show 0 ≤ 60 by omega), BI.bigSep_empty, trav_zero]
  unfold outg
  iintro ⟨Ha, Hst, ⟨%f, Ho⟩, Hv, Hp0, Hp1, Ht, Hcr, Hb⟩
  isplitl [Ha]; · iexact Ha
  isplitl [Hst]; · iexact Hst
  isplitl [Ho Hv]
  · isplitl [Ho]
    · iexists f
      isplitl [Ho]; · iexact Ho
      ipureintro; intro j h1 h2; omega
    · iexact Hv
  isplitl [Hp0]; · iexact Hp0
  isplitl [Hp1]; · iexact Hp1
  isplitl [Ht Hcr Hb]
  · isplitr [Ht]
    · iapply (gates d c)
      isplitl [Hb] <;> iassumption
    · iexact Ht
  iempintro

/-! ## The end -/

/-- A cell whose rounds are over closes, its counter at zero. -/
theorem close_slot (K : GSem nD τ sig → ℕ) (d s : Bool) (c : Dev nD) : iprop(ctx p K ∗ slotPos d s c 31) ⊢ |={Set.univ}=> (slotZero d s c : sProp 𝕄) := by
  unfold slotPos slotZero posn
  iintro ⟨#Hc, ⟨H1, -⟩, ⟨H2, -⟩, ⟨H3, -⟩⟩
  imod (Rounds.cell_close ER (rd p) (g := sendCell d s c) (κ := K (sendCell d s c)) (Set.mem_univ _) id
    (duties_later p (sendCell d s c) 31 (by rw [role_send]))) $$ [H1] with H1
  · isplitr; · iapply (ctx_send p K) $$ Hc
    iexact H1
  imod (Rounds.cell_close ER (rd p) (g := recvCell d s c) (κ := K (recvCell d s c)) (Set.mem_univ _) id
    (duties_later p (recvCell d s c) 31 (by rw [role_recv]))) $$ [H2] with H2
  · isplitr; · iapply (ctx_recv p K) $$ Hc
    iexact H2
  imod (Rounds.cell_close ER (rd p) (g := credCell d s c) (κ := K (credCell d s c)) (Set.mem_univ _) id
    (duties_later p (credCell d s c) (31 - 1) (by rw [role_cred]))) $$ [H3] with H3
  · isplitr; · iapply (ctx_cred p K) $$ Hc
    iexact H3
  imodintro
  isplitl [H1]; · iexact H1
  isplitl [H2] <;> iassumption

/-- The barrier's only round is over: it closes. -/
theorem close_bar (K : GSem nD τ sig → ℕ) (c : Dev nD) : iprop(ctx p K ∗ posn (barCell c) 1) ⊢ |={Set.univ}=> (semVal (barCell c) 0 : sProp 𝕄) := by
  unfold posn
  iintro ⟨#Hc, H1, -⟩
  imod (Rounds.cell_close ER (rd p) (g := barCell c) (κ := K (barCell c)) (Set.mem_univ _) id
    (duties_later p (barCell c) 1 (by rw [role_bar]))) $$ [H1] with H1
  · isplitr; · iapply (ctx_bar p K) $$ Hc
    iexact H1
  imodintro
  iexact H1

/-- All chunks stored, a direction's rows of the result array are the totals. -/
theorem outg_end (d : Bool) (c : Dev nD) :
    (outg p d c 62 : sProp 𝕄) ⊢ iprop(outPts d c (outF p) ∗ semVal ((c : Thread nD τ), .dma (cpoS d)) 0) := by
  unfold outg
  iintro ⟨⟨%f, Ho, %hf⟩, Hv⟩
  have hall : ∀ k, chunkOf d k f = total p d k := fun k => by
    obtain ⟨n, hn, h⟩ := src_surj d (src d 31 c) k
    rw [src_add] at h
    have := hf (n + 31) (by omega) (by omega)
    rw [h] at this
    exact this
  isplitl [Ho]
  · iapply (Entails.of_eq (pointsTo_congr (fun i hi => eq_outF p d f hall i hi))) $$ Ho
  · iexact Hv

/-- A direction after the last step closes its cells. -/
theorem half_end (K : GSem nD τ sig → ℕ) (d : Bool) (c : Dev nD) : iprop(ctx p K ∗ half p d c 62) ⊢ |={Set.univ}=> (done p d c : sProp 𝕄) := by
  unfold half done
  rw [show slotOf 62 = false from rfl, show (!false) = true from rfl, show 62 / 2 = 31 from rfl,
    ico_head (show 60 < 62 by omega), bs_insert (ico_fresh 60 62), ico_head (show 60 + 1 < 62 by omega), bs_insert (ico_fresh (60 + 1) 62),
    show slotOf 60 = false from rfl, show slotOf (60 + 1) = true from rfl]
  iintro ⟨#Hc, Ha, Hst, Ho, Hp0, Hp1, -, Hs0, Hs1, -⟩
  imod (close_slot p K d false c) $$ [Hp0] with Hz0
  · isplitr; · iexact Hc
    iexact Hp0
  imod (close_slot p K d true c) $$ [Hp1] with Hz1
  · isplitr; · iexact Hc
    iexact Hp1
  ihave Ho := (outg_end p d c) $$ Ho
  icases Ho with ⟨Ho, Hv⟩
  imodintro
  isplitl [Ha]; · iapply (holds_owns (accM d) c _) $$ Ha
  isplitl [Hst]; · iexact Hst
  isplitl [Ho]; · iexact Ho
  isplitl [Hv]; · iexact Hv
  isplitl [Hs0]; · iexact Hs0
  isplitl [Hs1]; · iexact Hs1
  isplitl [Hz0] <;> iassumption

/-! ## The kernel -/

/-- The own chunks fetched: from after the handshake to the end. -/
theorem fetch_run (K : GSem nD τ sig → ℕ) (c : Dev nD) (Q : PUnit → sProp 𝕄) :
    iprop(ctx p K ∗ (base p false c ∗ barPay false c) ∗ (base p true c ∗ barPay true c) ∗ (∃ W, owes (c : Thread nD τ) (owed c 0) W)
        ∗ ((half p false c 62 ∗ half p true c 62 ∗ ∃ W, owes (c : Thread nD τ) 0 W) -∗ wpk c (.ret ⟨⟩) Q))
      ⊢ wpk c (startFetch false (accM false) (accM_whole false).wordExact (ownOff false c) (ownOff_inb false c) <|
        startFetch true (accM true) (accM_whole true).wordExact (ownOff true c) (ownOff_inb true c) <|
        waitFetch false (accM false) (accM_whole false).wordExact (ownOff false c) (ownOff_inb false c) <|
        waitFetch true (accM true) (accM_whole true).wordExact (ownOff true c) (ownOff_inb true c) <|
        steps c 62 0) Q := by
  have hO : Above 0 (owed c 0) := above_owed c 0 (by omega)
  unfold base stage
  iintro ⟨#Hc, ⟨⟨Ha, ⟨Hg, Hp, Hi⟩, Ho, Hv, Hs0, Hs1, Ht, Hcr⟩, Hb⟩, ⟨⟨Ha', ⟨Hg', Hp', Hi'⟩, Ho', Hv', Hs0', Hs1', Ht', Hcr'⟩, Hb'⟩, ⟨%W, HO⟩, Hk⟩
  iapply (wp_startFetch p false (accM false) _ (N_acc false) (shareOf false) c c _ _ (ownOff_eq false c))
  isplitl [Hp]; · iexact Hp
  isplitl [Ha]; · iexact Ha
  isplitl [Hi]; · iexact Hi
  iintro Hf
  iapply (wp_startFetch p true (accM true) _ (N_acc true) (shareOf true) c c _ _ (ownOff_eq true c))
  isplitl [Hp']; · iexact Hp'
  isplitl [Ha']; · iexact Ha'
  isplitl [Hi']; · iexact Hi'
  iintro Hf'
  iapply (wp_waitFetch p K false (accM false) _ (N_acc false) (shareOf false) c c _ _ (owed c 0) W hO)
  isplitr; · iexact Hc
  isplitl [Hf]; · iexact Hf
  isplitl [HO]; · iexact HO
  iintro ⟨Ha, Hp, Hi, ⟨%W', HO⟩⟩
  iapply (wp_waitFetch p K true (accM true) _ (N_acc true) (shareOf true) c c _ _ (owed c 0) W' hO)
  isplitr; · iexact Hc
  isplitl [Hf']; · iexact Hf'
  isplitl [HO]; · iexact HO
  iintro ⟨Ha', Hp', Hi', HO⟩
  iapply (steps_run p K c Q 62 0 rfl)
  isplitr; · iexact Hc
  isplitl [Ha Hg Hp Hi Ho Hv Hs0 Hs1 Ht Hcr Hb]
  · iapply (half_start p false c)
    isplitl [Ha]; · iexact Ha
    isplitl [Hg Hp Hi]
    · unfold stage
      isplitl [Hg]; · iexact Hg
      isplitl [Hp] <;> iassumption
    isplitl [Ho]; · iexact Ho
    isplitl [Hv]; · iexact Hv
    isplitl [Hs0]; · iexact Hs0
    isplitl [Hs1]; · iexact Hs1
    isplitl [Ht]; · iexact Ht
    isplitl [Hcr] <;> iassumption
  isplitl [Ha' Hg' Hp' Hi' Ho' Hv' Hs0' Hs1' Ht' Hcr' Hb']
  · iapply (half_start p true c)
    isplitl [Ha']; · iexact Ha'
    isplitl [Hg' Hp' Hi']
    · unfold stage
      isplitl [Hg']; · iexact Hg'
      isplitl [Hp'] <;> iassumption
    isplitl [Ho']; · iexact Ho'
    isplitl [Hv']; · iexact Hv'
    isplitl [Hs0']; · iexact Hs0'
    isplitl [Hs1']; · iexact Hs1'
    isplitl [Ht']; · iexact Ht'
    isplitl [Hcr'] <;> iassumption
  isplitl [HO]; · iexact HO
  iexact Hk

/-- The kernel on device `c`, from both directions at the start to both at the end. -/
theorem body_run (K : GSem nD τ sig → ℕ) (c : Dev nD) (W : Waits sig ℕ) (Q : PUnit → sProp 𝕄) :
    iprop(ctx p K ∗ (base p false c ∗ hello false c) ∗ (base p true c ∗ hello true c)
        ∗ posn (barCell c) 0 ∗ cred (tallyAt (barCell c) 0 2) ∗ owes (c : Thread nD τ) (owed₀ c) W
        ∗ ((done p false c ∗ done p true c ∗ semVal (barCell c) 0 ∗ ∃ W, owes (c : Thread nD τ) 0 W) -∗ Q ⟨⟩))
      ⊢ wpk c body Q := by
  unfold body owed₀
  unfold wpk
  rw [wp_deviceId]
  iintro ⟨#Hc, ⟨Hb, Hh⟩, ⟨Hb', Hh'⟩, Hpos, Hcr, HO, Hk⟩
  iapply (wp_hello p K false c (owed c 0 + tallyAt (barCell (toDev false c)) 0 1) W)
  isplitr; · iexact Hc
  isplitl [Hb]; · iexact Hb
  isplitl [Hh]; · iexact Hh
  isplitl [HO]; · iexact HO
  iintro ⟨Hb, HO⟩
  iapply (wp_hello p K true c (owed c 0) W)
  isplitr; · iexact Hc
  isplitl [Hb']; · iexact Hb'
  isplitl [Hh']; · iexact Hh'
  isplitl [HO]; · iexact HO
  iintro ⟨Hb', HO⟩
  iapply (wp_meet p K c (owed c 0) W (above_owed c 0 (by omega)))
  isplitr; · iexact Hc
  isplitl [Hpos]; · iexact Hpos
  isplitl [Hcr]; · iexact Hcr
  isplitl [HO]; · iexact HO
  iintro ⟨Hy, Hy', Hpos, HO⟩
  iapply (fetch_run p K c Q)
  isplitr; · iexact Hc
  isplitl [Hb Hy]; · isplitl [Hb] <;> iassumption
  isplitl [Hb' Hy']; · isplitl [Hb'] <;> iassumption
  isplitl [HO]; · iexact HO
  iintro ⟨Ha, Hb, HO⟩
  unfold wpk
  rw [wp_ret]
  imod (half_end p K false c) $$ [Ha] with Ha
  · isplitr; · iexact Hc
    iexact Ha
  imod (half_end p K true c) $$ [Hb] with Hb
  · isplitr; · iexact Hc
    iexact Hb
  imod (close_bar p K c) $$ [Hpos] with Hz
  · isplitr; · iexact Hc
    iexact Hpos
  imodintro
  iapply Hk
  isplitl [Ha]; · iexact Ha
  isplitl [Hb]; · iexact Hb
  isplitl [Hz] <;> iassumption

end Cert.AllReduce

end
-- ==== Proof.Region.lean ====
/-
  The pallas call between the host operation before it and the end of the run: a device's buffers and semaphores gathered
  into what the kernel's triple takes, and what it leaves put back.
-/
module

public import proofs.«01_k».proof.Proof.Entry
public import proofs.«01_k».proof.Proof.Gen.KernelIdeal.Launch
public import Idealize.ShloMosaic.Lib.Pipeline.RegionTalk

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

/-! ## Arrays split between the directions -/

section Split
variable (p : Dev nD → Arr F)

/-- A buffer of device `c`, whole, at contents `f`. -/
abbrev pt (c : Dev nD) (b : Ref sig .tc) (f : b.ty.Contents (Elt F)) : sProp 𝕄 := ((c : Thread nD τ).loc b) ↦{fullShare} f
/-- A buffer of device `c`, whole, at contents not chosen. -/
abbrev ptAny (c : Dev nD) (b : Ref sig .tc) : sProp 𝕄 := iprop(∃ f : Buf (Elt F) ((c : Thread nD τ).loc b), pt c b f)

theorem owns_whole {sp : Space} {s : Shape} {e : EltTy} (M : Memref sig .tc sp s e) (b : Ref sig .tc) (c : Dev nD) (hs : s = b.ty.shape) (he : e = b.ty.elt) (hsp : sp = b.space)
    (hM : HEq M (Memref.whole b)) : (owns M c : sProp 𝕄) = ptAny c b := by
  subst hs he hsp
  obtain rfl := eq_of_heq hM
  unfold owns
  rw [show (Memref.whole b).view.set = Finset.univ from View.set_whole _]

/-- Half of an array's share for either direction. -/
theorem arr_split (c : Dev nD) : (pt c main_v1 (p c) : sProp 𝕄) ⊣⊢ iprop(arrPts p c Finset.univ (shareOf false) ∗ arrPts p c Finset.univ (shareOf true)) :=
  pointsTo_share (PosShare.mem_left_op_right fullShare)

/-- The result array's rows, divided between the directions. -/
theorem out_split (c : Dev nD) (f : Arr F) : (pt c main_v2 f : sProp 𝕄) ⊣⊢ iprop(outPts false c f ∗ outPts true c f) := by
  unfold outPts
  rw [← dirSet_compl]
  exact pointsTo_split_subset (Finset.subset_univ _)

/-- The two slots of a landing buffer are its two halves. -/
theorem slot_compl : (Finset.univ : Finset S2x64x8192.Idx) \ (slotRect false).set = (slotRect true).set := by
  ext i
  rw [Finset.mem_sdiff, Rect.mem_set_unit, Rect.mem_set_unit]
  have h0 := (i 0).isLt
  have h1 := (i 1).isLt
  have h2 := (i 2).isLt
  simp only [Fin.forall_fin_succ, Finset.mem_univ, true_and, slotOff]
  simp at h0 h1 h2 ⊢
  omega

theorem slot_set_false (s : Bool) : (slotM false s).view.set = (slotRect s).set := (View.set_reshape _ _).trans (View.set_slice_whole _ _)
theorem slot_set_true (s : Bool) : (slotM true s).view.set = (slotRect s).set := (View.set_reshape _ _).trans (View.set_slice_whole _ _)

/-- A buffer whole is a set of its elements and the rest, each at contents not chosen. -/
theorem any_split {ℓ : Loc nD τ sig} {A B : Finset (Idx ℓ)} (h : Finset.univ \ A = B) :
    iprop(∃ f : Buf (Elt F) ℓ, ℓ ↦{fullShare} f) ⊣⊢ (iprop((∃ f : Buf (Elt F) ℓ, ℓ ↦[A]{fullShare} f) ∗ (∃ f : Buf (Elt F) ℓ, ℓ ↦[B]{fullShare} f)) : sProp 𝕄) := by
  subst h
  constructor
  · iintro ⟨%f, H⟩
    ihave H := ((pointsTo_split_subset (Finset.subset_univ A)).1) $$ H
    icases H with ⟨H1, H2⟩
    isplitl [H1]
    · iexists f; iexact H1
    · iexists f; iexact H2
  · iintro ⟨⟨%f, H1⟩, ⟨%g, H2⟩⟩
    ihave H := (pointsTo_join_subset (Finset.subset_univ A)) $$ [H1 H2]
    · isplitl [H1]; · iexact H1
      iexact H2
    iexists _; iexact H

/-- A landing buffer whole is its two slots. -/
theorem lnd_split (d : Bool) (c : Dev nD) :
    (ptAny c (match d with | false => cc0_scratch4 | true => cc0_scratch5) : sProp 𝕄) ⊣⊢ iprop(owns (slotM d false) c ∗ owns (slotM d true) c) := by
  cases d
  · exact any_split (ℓ := (c : Thread nD τ).loc cc0_scratch4) (A := (slotM false false).view.set) (B := (slotM false true).view.set)
      (by rw [slot_set_false, slot_set_false]; exact slot_compl)
  · exact any_split (ℓ := (c : Thread nD τ).loc cc0_scratch5) (A := (slotM true false).view.set) (B := (slotM true true).view.set)
      (by rw [slot_set_true, slot_set_true]; exact slot_compl)

/-- The chunk buffers and slots of one direction. -/
def chunks (d : Bool) (c : Dev nD) : sProp 𝕄 := iprop(owns (accM d) c ∗ owns (stgM d) c ∗ owns (slotM d false) c ∗ owns (slotM d true) c)

theorem acc_eq (d : Bool) (c : Dev nD) : (owns (accM d) c : sProp 𝕄) = ptAny c (match d with | false => cc0_scratch0 | true => cc0_scratch1) := by
  cases d <;> exact owns_whole _ _ c rfl rfl rfl HEq.rfl
theorem stg_eq (d : Bool) (c : Dev nD) : (owns (stgM d) c : sProp 𝕄) = ptAny c (match d with | false => cc0_scratch2 | true => cc0_scratch3) := by
  cases d <;> exact owns_whole _ _ c rfl rfl rfl HEq.rfl

/-- The call's scratch buffers are the two directions' buffers. -/
theorem scratch_eq (c : Dev nD) :
    (Pipeline.scopedRest (Ix := ℕ) (Name := ℕ) (U := UU) (Lvl := ℕ) (Val := Elt F) (cfg0.spec) c : sProp 𝕄) ⊣⊢ iprop(chunks false c ∗ chunks true c) := by
  rw [scopedRest0_eq]
  unfold chunks
  rw [acc_eq, acc_eq, stg_eq, stg_eq]
  constructor
  · iintro ⟨H0, H1, H2, H3, H4, H5⟩
    ihave Ha := (lnd_split false c).1 $$ H4
    ihave Hb := (lnd_split true c).1 $$ H5
    isplitl [H0 H2 Ha]
    · isplitl [H0]; · iexact H0
      isplitl [H2]; · iexact H2
      iexact Ha
    · isplitl [H1]; · iexact H1
      isplitl [H3]; · iexact H3
      iexact Hb
  · iintro ⟨⟨H0, H2, Ha⟩, ⟨H1, H3, Hb⟩⟩
    ihave H4 := (lnd_split false c).2 $$ Ha
    ihave H5 := (lnd_split true c).2 $$ Hb
    isplitl [H0]; · iexact H0
    isplitl [H1]; · iexact H1
    isplitl [H2]; · iexact H2
    isplitl [H3]; · iexact H3
    isplitl [H4] <;> iassumption

end Split

/-! ## The call's own semaphores -/

/-- The protocol's twelve and the local copies' four. -/
abbrev OwnIx : Type := (Bool × Bool × Fin 3) ⊕ (Bool × Bool)
def osem : OwnIx → SemLoc sig
  | .inl (d, s, k) => scSem d s k
  | .inr (d, b) => .dma (bif b then cpoS d else cpiS d)

theorem own_facts : Pipeline.OwnSemFacts (cfg0.spec) osem := by decide

theorem bs_prod {A B : Type} [Fintype A] [Fintype B] (Φ : A × B → sProp 𝕄) :
    bigSep Finset.univ Φ = bigSep Finset.univ fun a => bigSep Finset.univ fun b => Φ (a, b) := BI.bigSep_univ_prod Φ

/-- A slot's three counters, one by one. -/
theorem bs_three (Φ : Fin 3 → sProp 𝕄) : bigSep Finset.univ Φ = iprop(Φ 0 ∗ Φ 1 ∗ Φ 2) :=
  bigSep_univ_eq_bigSepL [0, 1, 2] (by decide) (by decide) Φ

theorem own_eq (c : Dev nD) : (Pipeline.ownSems0 osem c : sProp 𝕄)
    = iprop(((slotZero false false c ∗ slotZero false true c) ∗ (slotZero true false c ∗ slotZero true true c))
      ∗ ((semVal ((c : Thread nD τ), .dma (cpiS false)) 0 ∗ semVal ((c : Thread nD τ), .dma (cpoS false)) 0)
        ∗ (semVal ((c : Thread nD τ), .dma (cpiS true)) 0 ∗ semVal ((c : Thread nD τ), .dma (cpoS true)) 0))) := by
  unfold Pipeline.ownSems0
  rw [BI.bigSep_univ_sum, bs_prod, bs_prod, bs_bool, bs_bool, bs_prod, bs_prod, bs_bool, bs_bool, bs_bool, bs_bool, bs_three, bs_three, bs_three, bs_three]
  rfl

/-! ## What a device holds at the call -/

section Hold
variable (p : Dev nD → Arr F)

/-- All cells' invariants at the names `K`. -/
def invs (K : GSem nD τ sig → ℕ) : sProp 𝕄 := bigSep (barCells ∪ scCells) fun g => cellInv ER (rd p) (K g) g
instance invs_persistent (K : GSem nD τ sig → ℕ) : BI.Persistent (invs p K) := by unfold invs; infer_instance

/-- The right to open a slot's three cells. -/
def slotOpen (d s : Bool) (c : Dev nD) : sProp 𝕄 := iprop(openTok ER (sendCell d s c) ∗ openTok ER (recvCell d s c) ∗ openTok ER (credCell d s c))
/-- A direction's duties and units at the launch. -/
def dues (d : Bool) (c : Dev nD) : sProp 𝕄 :=
  iprop(bigSep (Finset.Ico 0 62) (stepToks d c) ∗ bigSep (Finset.Ico 2 62) (fun j => cred (tallyAt (credCell d (slotOf j) c) (j - 2) 1))
    ∗ dutyTok ER (barCell (fromDev d c)) 0 d ∗ reached ER (barCell (fromDev d c)) 0)
/-- What the launch gives a device: all invariants, its standing on its barrier, and per direction its cells unopened. -/
def start (c : Dev nD) : sProp 𝕄 :=
  iprop(∃ K, invs p K ∗ posn (barCell c) 0 ∗ cred (tallyAt (barCell c) 0 2)
    ∗ ((slotOpen false false c ∗ slotOpen false true c) ∗ dues false c) ∗ ((slotOpen true false c ∗ slotOpen true true c) ∗ dues true c))
/-- A direction with its cells opened. -/
def ready (d : Bool) (c : Dev nD) : sProp 𝕄 :=
  iprop((slotPos d false c 0 ∗ slotPos d true c 0) ∗ dues d c ∗ (semVal ((c : Thread nD τ), .dma (cpiS d)) 0 ∗ semVal ((c : Thread nD τ), .dma (cpoS d)) 0))
/-- The device with all its cells opened. -/
def opened (c : Dev nD) : sProp 𝕄 :=
  iprop(∃ K, ctx p K ∗ posn (barCell c) 0 ∗ cred (tallyAt (barCell c) 0 2) ∗ ready false c ∗ ready true c)
/-- All that the kernel's triple takes. -/
def entry (c : Dev nD) : sProp 𝕄 :=
  iprop(∃ K, ctx p K ∗ (base p false c ∗ hello false c) ∗ (base p true c ∗ hello true c) ∗ posn (barCell c) 0 ∗ cred (tallyAt (barCell c) 0 2))
/-- All that it leaves. -/
def leave (c : Dev nD) : sProp 𝕄 := iprop(done p false c ∗ done p true c ∗ semVal (barCell c) 0)

/-- One cell opened. -/
theorem open_one (K : GSem nD τ sig → ℕ) (g : GSem nD τ sig) (hg : g ∈ barCells ∪ scCells) :
    iprop(ctx p K ∗ openTok ER g ∗ semVal g 0) ⊢ (|={Set.univ}=> posn g 0 : sProp 𝕄) := by
  unfold posn
  iintro ⟨#Hc, Ho, Hv⟩
  iapply (Rounds.cell_open ER (rd p) (g := g) (Set.mem_univ (K g)))
  isplitr; · iapply (ctx_cell p K g hg) $$ Hc
  isplitl [Ho] <;> iassumption

/-- A slot's cells opened. -/
theorem open_slot (K : GSem nD τ sig → ℕ) (d s : Bool) (c : Dev nD) :
    iprop(ctx p K ∗ slotOpen d s c ∗ slotZero d s c) ⊢ (|={Set.univ}=> slotPos d s c 0 : sProp 𝕄) := by
  unfold slotOpen slotZero slotPos
  iintro ⟨#Hc, ⟨Ho1, Ho2, Ho3⟩, ⟨Hv1, Hv2, Hv3⟩⟩
  imod (open_one p K (sendCell d s c) (Finset.mem_union_right _ (mem_scCells (c, d, s, 0)))) $$ [Ho1 Hv1] with H1
  · isplitr; · iexact Hc
    isplitl [Ho1] <;> iassumption
  imod (open_one p K (recvCell d s c) (Finset.mem_union_right _ (mem_scCells (c, d, s, 1)))) $$ [Ho2 Hv2] with H2
  · isplitr; · iexact Hc
    isplitl [Ho2] <;> iassumption
  imod (open_one p K (credCell d s c) (Finset.mem_union_right _ (mem_scCells (c, d, s, 2)))) $$ [Ho3 Hv3] with H3
  · isplitr; · iexact Hc
    isplitl [Ho3] <;> iassumption
  imodintro
  isplitl [H1]; · iexact H1
  isplitl [H2] <;> iassumption

/-- All cells opened when the call's semaphores arrive. -/
theorem open_all (c : Dev nD) : iprop(start p c ∗ Pipeline.ownSems0 osem c ∗ levAts L lv) ⊢ (|={Set.univ}=> opened p c : sProp 𝕄) := by
  rw [own_eq]
  unfold start opened ready
  iintro ⟨⟨%K, #HI, Hat, Hcr, ⟨⟨Hff, Hft⟩, Hdf⟩, ⟨⟨Htf, Htt⟩, Hdt⟩⟩, ⟨⟨⟨Zff, Zft⟩, ⟨Ztf, Ztt⟩⟩, ⟨Hcf, Hct⟩⟩, #Hlev⟩
  ihave #Hc : ctx p K $$ []
  · unfold ctx invs
    isplitr; · iexact HI
    iexact Hlev
  imod (open_slot p K false false c) $$ [Hff Zff] with H1
  · isplitr; · iexact Hc
    isplitl [Hff] <;> iassumption
  imod (open_slot p K false true c) $$ [Hft Zft] with H2
  · isplitr; · iexact Hc
    isplitl [Hft] <;> iassumption
  imod (open_slot p K true false c) $$ [Htf Ztf] with H3
  · isplitr; · iexact Hc
    isplitl [Htf] <;> iassumption
  imod (open_slot p K true true c) $$ [Htt Ztt] with H4
  · isplitr; · iexact Hc
    isplitl [Htt] <;> iassumption
  imodintro
  iexists K
  isplitr; · iexact Hc
  isplitl [Hat]; · iexact Hat
  isplitl [Hcr]; · iexact Hcr
  isplitl [H1 H2 Hdf Hcf]
  · isplitl [H1 H2]; · isplitl [H1] <;> iassumption
    isplitl [Hdf] <;> iassumption
  · isplitl [H3 H4]; · isplitl [H3] <;> iassumption
    isplitl [Hdt] <;> iassumption

/-- One direction assembled. -/
theorem gather (d : Bool) (c : Dev nD) :
    iprop(ready d c ∗ chunks d c ∗ arrPts p c Finset.univ (shareOf d) ∗ (∃ f, outPts d c f)) ⊢ (iprop(base p d c ∗ hello d c) : sProp 𝕄) := by
  unfold ready dues chunks base hello stage
  iintro ⟨⟨⟨P1, P2⟩, ⟨HT, HC, HD, HR⟩, ⟨S1, S2⟩⟩, ⟨A, G, L1, L2⟩, P, O⟩
  isplitr [L1 L2 HD HR]
  · isplitl [A]; · iexact A
    isplitl [G P S1]
    · isplitl [G]; · iexact G
      isplitl [P] <;> iassumption
    isplitl [O]; · iexact O
    isplitl [S2]; · iexact S2
    isplitl [P1]; · iexact P1
    isplitl [P2]; · iexact P2
    isplitl [HT] <;> iassumption
  · isplitl [L1]; · iexact L1
    isplitl [L2]; · iexact L2
    isplitl [HD] <;> iassumption

/-- One direction taken apart at the end. -/
theorem scatter (d : Bool) (c : Dev nD) :
    (done p d c : sProp 𝕄) ⊢ iprop(chunks d c ∗ arrPts p c Finset.univ (shareOf d) ∗ outPts d c (outF p) ∗ (slotZero d false c ∗ slotZero d true c)
      ∗ (semVal ((c : Thread nD τ), .dma (cpiS d)) 0 ∗ semVal ((c : Thread nD τ), .dma (cpoS d)) 0)) := by
  unfold done chunks stage
  iintro ⟨A, ⟨G, P, S1⟩, O, S2, L1, L2, Z1, Z2⟩
  isplitl [A G L1 L2]
  · isplitl [A]; · iexact A
    isplitl [G]; · iexact G
    isplitl [L1] <;> iassumption
  isplitl [P]; · iexact P
  isplitl [O]; · iexact O
  isplitl [Z1 Z2]; · isplitl [Z1] <;> iassumption
  isplitl [S1] <;> iassumption

/-- The call's entry: what the device holds becomes what the triple takes. -/
theorem enter (c : Dev nD) (f : Arr F) :
    iprop(opened p c ∗ Pipeline.scopedRest (Ix := ℕ) (Name := ℕ) (U := UU) (Lvl := ℕ) (Val := Elt F) (cfg0.spec) c ∗ pt c main_v1 (p c) ∗ pt c main_v2 f)
      ⊢ (entry p c : sProp 𝕄) := by
  unfold opened entry
  iintro ⟨⟨%K, #Hc, Hat, Hcr, Hf, Ht⟩, Hs, H1, H2⟩
  ihave Hs := (scratch_eq c).1 $$ Hs
  icases Hs with ⟨Cf, Ct⟩
  ihave H1 := (arr_split p c).1 $$ H1
  icases H1 with ⟨Af, At⟩
  ihave H2 := (out_split c f).1 $$ H2
  icases H2 with ⟨Of, Ot⟩
  iexists K
  isplitr; · iexact Hc
  isplitl [Hf Cf Af Of]
  · iapply (gather p false c)
    isplitl [Hf]; · iexact Hf
    isplitl [Cf]; · iexact Cf
    isplitl [Af]; · iexact Af
    iexists f; iexact Of
  isplitl [Ht Ct At Ot]
  · iapply (gather p true c)
    isplitl [Ht]; · iexact Ht
    isplitl [Ct]; · iexact Ct
    isplitl [At]; · iexact At
    iexists f; iexact Ot
  isplitl [Hat] <;> iassumption

/-- The call's exit: buffers whole, the result array at the totals, every counter at zero. -/
theorem exit (c : Dev nD) :
    (leave p c : sProp 𝕄) ⊢ iprop(Pipeline.scopedRest (Ix := ℕ) (Name := ℕ) (U := UU) (Lvl := ℕ) (Val := Elt F) (cfg0.spec) c
      ∗ (pt c main_v1 (p c) ∗ pt c main_v2 (outF p)) ∗ Pipeline.ownSems0 osem c ∗ semVal (barCell c) 0) := by
  rw [own_eq]
  unfold leave
  iintro ⟨Df, Dt, Hb⟩
  ihave Df := (scatter p false c) $$ Df
  icases Df with ⟨Cf, Af, Of, Zf, Sf⟩
  ihave Dt := (scatter p true c) $$ Dt
  icases Dt with ⟨Ct, At, Ot, Zt, St⟩
  isplitl [Cf Ct]
  · iapply (scratch_eq c).2
    isplitl [Cf] <;> iassumption
  isplitl [Af At Of Ot]
  · isplitl [Af At]
    · iapply (arr_split p c).2
      isplitl [Af] <;> iassumption
    · iapply (out_split c (outF p)).2
      isplitl [Of] <;> iassumption
  isplitl [Zf Zt Sf St]
  · isplitl [Zf Zt]; · isplitl [Zf] <;> iassumption
    isplitl [Sf] <;> iassumption
  iexact Hb

/-- The kernel's triple, over `entry` and `leave`. -/
theorem body_leave (c : Dev nD) (W : Waits sig ℕ) (Q : PUnit → sProp 𝕄) :
    iprop(entry p c ∗ owes (c : Thread nD τ) (owed₀ c) W ∗ ((leave p c ∗ ∃ W, owes (c : Thread nD τ) 0 W) -∗ Q ⟨⟩)) ⊢ wpk c body Q := by
  unfold entry leave
  iintro ⟨⟨%K, #Hc, Hf, Ht, Hat, Hcr⟩, HO, HQ⟩
  iapply (body_run p K c W Q)
  isplitr; · iexact Hc
  isplitl [Hf]; · iexact Hf
  isplitl [Ht]; · iexact Ht
  isplitl [Hat]; · iexact Hat
  isplitl [Hcr]; · iexact Hcr
  isplitl [HO]; · iexact HO
  iintro ⟨Df, Dt, Hb, HO⟩
  iapply HQ
  isplitr [HO]
  · isplitl [Df]; · iexact Df
    isplitl [Dt] <;> iassumption
  iexact HO

end Hold

end Cert.AllReduce

end
-- ==== Proof.Call.lean ====
/-
  The program as its two segments, the host product and the pallas call, with the thread state between them.
-/
module

public import proofs.«01_k».proof.Proof.Region
public import proofs.«01_k».proof.Proof.Gen.KernelIdeal.Frame
public import Idealize.ShloMosaic.Lib.StableHlo

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

variable (m : (ℓ : Loc nD τ sig) → Buf (Elt F) ℓ)

/-! ## The buffers' values -/

/-- At the start; after the host product; at the end. -/
abbrev V₀ (c : Dev nD) : Valuation τ sig (Elt F) := fun b => m ((c : Dev nD), b)
abbrev V₁ (c : Dev nD) : Valuation τ sig (Elt F) := StableHlo.after (hostOps0 (F := F)) (V₀ m c)
/-- Each device's own product, the array the kernel sums over the devices. -/
def part (c : Dev nD) : Arr F := V₁ m c (Proc.devRef .tc main_v1)
abbrev V₂ (c : Dev nD) : Valuation τ sig (Elt F) := Function.update (V₁ m c) (Proc.devRef .tc main_v2) (outF (part m))

theorem V₂_v2 (c : Dev nD) : V₂ m c main_v2 = outF (part m) := Function.update_self ..
theorem V₂_v1 (c : Dev nD) : V₂ m c main_v1 = part m c := Function.update_of_ne (by decide) ..
theorem V₂_arg0 (c : Dev nD) : V₂ m c main_arg0 = V₁ m c main_arg0 := Function.update_of_ne (by decide) ..
theorem V₂_arg1 (c : Dev nD) : V₂ m c main_arg1 = V₁ m c main_arg1 := Function.update_of_ne (by decide) ..

/-- The buffers outside any call. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## The call's data -/

/-- The two arguments, untouched by the call, and the random generator. -/
def beside (c : Dev nD) : sProp 𝕄 :=
  iprop((pt c main_arg0 (V₁ m c main_arg0) ∗ pt c main_arg1 (V₁ m c main_arg1)) ∗ ∃ r, prngReg c r)
def before (c : Dev nD) : sProp 𝕄 := iprop(entry (part m) c ∗ beside m c)
def afterwards (c : Dev nD) : sProp 𝕄 := iprop(leave (part m) c ∗ beside m c)

/-- The one point of the call: it owes `owed₀` before and nothing after. -/
def dat (c : Dev nD) : Pipeline.Dat τ (Elt F) ℕ ℕ UU ℕ cfg0 c where
  A w := w.elim0
  after w := w.elim0
  Φ t := if t.val = 0 then before m c else afterwards m c
  q w := w.elim0
  owed t := if t.val = 0 then owed₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem bs_none {M : Type} [URA M] (Φ : Fin 0 → sProp M) : bigSep Finset.univ Φ = (BI.emp : sProp M) :=
  bigSep_univ_eq_bigSepL [] (by decide) (by decide) Φ

theorem owed_zero (c : Dev nD) : (pdats (F := F) m 0 c).owed 0 = owed₀ c := by
  show (if ((0 : Fin (cfg0.N + 1)).val = 0) then owed₀ c else 0) = owed₀ c; exact if_pos rfl
theorem owed_first (c : Dev nD) : (dat (F := F) m c).owed t0_0.castSucc = owed₀ c := by
  show (if (t0_0.castSucc : Fin (cfg0.N + 1)).val = 0 then owed₀ c else 0) = owed₀ c; exact if_pos rfl
theorem owed_last (c : Dev nD) : (pdats (F := F) m 0 c).owed (Fin.last _) = 0 := by
  show (if (Fin.last cfg0.N).val = 0 then owed₀ c else 0) = 0
  rw [Fin.val_last, if_neg (by rw [show cfg0.N = 1 from N_0]; decide)]

theorem owesAt_intro (c : Dev nD) (t : Fin (cfg0.N + 1)) (O : CellTallies nD τ sig ℕ) (h0 : (dat (F := F) m c).owed t = O) (W : Waits sig ℕ) :
    (owes (c : Thread nD τ) O W : sProp 𝕄) ⊢ ((dat m c).owesAt 0 t : sProp 𝕄) := by
  unfold Dat.owesAt Pipeline.owesWithin Dat.bound; rw [h0, show (dat (F := F) m c).recorded t = Set.univ from rfl]
  iintro HO; iexists W; isplitr; · ipureintro; exact fun _ _ => Or.inl trivial
  iexact HO
theorem owesAt_elim (c : Dev nD) (t : Fin (cfg0.N + 1)) (O : CellTallies nD τ sig ℕ) (h0 : (dat (F := F) m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO

/-- The call's body obligation is the kernel's triple. -/
theorem body_ob (c : Dev nD) : BodyObligation (dat (F := F) m c) defs₀ 𝒱₀ 0 Set.univ := fun t => by
  obtain rfl := fin_N0 t
  rw [bs_none, bs_none]
  rw [show (dat m c).Φ t0_0.castSucc = before m c from rfl, show (dat m c).Φ t0_0.succ = afterwards m c from rfl]
  unfold before afterwards
  iintro ⟨⟨He, Hb⟩, HO, -⟩
  ihave HO' := (owesAt_elim m c _ (owed₀ c) (owed_first m c)) $$ HO
  icases HO' with ⟨%W, HO⟩
  iapply ((body_leave (part m) c W _).trans (Entails.of_eq (by rw [← body_eq t0_0]; rfl)))
  isplitl [He]; · iexact He
  isplitl [HO]; · iexact HO
  iintro ⟨Hl, ⟨%W', HO⟩⟩
  isplitr [HO]
  · isplitl [Hl] <;> iassumption
  isplitl [HO]; · iapply (owesAt_intro m c t0_0.succ 0 (owed_last m c) W'); iexact HO
  iempintro

/-! ## The two segments -/

/-- What rides beside the buffers up to the call. -/
def R (c : Dev nD) : sProp 𝕄 := iprop((start (part m) c ∗ ∃ r, prngReg c r) ∗ ∃ W, owes (c : Thread nD τ) (owed₀ c) W)

theorem ops_sub : ∀ op ∈ (hostOps0 : List (HloOp τ sig (Elt F))), op.bufs ⊆ bufs := fun op h => by
  simp only [List.mem_singleton] at h; subst h
  show ({Proc.devRef .tc main_arg0, Proc.devRef .tc main_arg1, Proc.devRef .tc main_v1} : Finset (DevRef τ sig)) ⊆ bufs; decide
theorem ops_fresh : ∀ op ∈ (hostOps0 : List (HloOp τ sig (Elt F))), op.fresh = ∅ := fun op h => by
  simp only [List.mem_singleton] at h; subst h; rfl

/-- The host product. -/
def seg0 : Pipeline.HostSeg (Name := ℕ) (U := UU) (pcfgs (F := F)) defs₀ 𝒱₀ L lv :=
  Pipeline.HostSeg.ofOps _ _ _ _ _ bufs hostOps0 ops_sub ops_fresh (V₀ m) (R m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- Whatever a device owes at the call is at indices that exist, at levels above zero. -/
theorem owed_cut (c : Dev nD) (g : GSem nD τ sig) (i : ℕ) (h : 0 < owed₀ c g i) : i ∈ L g ∧ 0 < lv g i := by
  have hbar : ∀ e : Dev nD, 0 < tallyAt (barCell e) 0 1 g i → i ∈ L g ∧ 0 < lv g i := fun e he => by
    rw [tallyAt_apply] at he
    split at he
    · next hg =>
      obtain ⟨rfl, rfl⟩ := hg
      exact ⟨by rw [L_tc]; decide, by unfold lv; rw [role_bar]; exact Nat.one_pos⟩
    · exact absurd he (Nat.lt_irrefl 0)
  unfold owed₀ at h
  rw [Pi.add_apply, Finsupp.add_apply, Pi.add_apply, Finsupp.add_apply] at h
  rcases Nat.add_pos_iff_pos_or_pos.mp h with h | h
  · rcases Nat.add_pos_iff_pos_or_pos.mp h with h | h
    · have := above_owed (b := 0) c 0 (by omega) g i h
      exact ⟨this.1, by omega⟩
    · exact hbar _ h
  · exact hbar _ h

theorem cut (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then owed₀ c else 0 := rfl
  rw [e] at h
  split at h
  · exact owed_cut c g i h
  · exact absurd h (Nat.lt_irrefl 0)

theorem call_in (c : Dev nD) : iprop(Pipeline.scopedRest (Pipeline.pin (pcfgs (F := F)) adm 0).spec c ∗ (∃ r, prngReg c r) ∗ StableHlo.held (c.tc : Thread nD τ) bufs (V₁ m c) ∗ opened (part m) c)
    ⊢ (pdats m 0 c).Φ 0 := by
  rw [show (pdats m 0 c).Φ 0 = before m c from rfl, bufs_eq]
  unfold before beside
  iintro ⟨Hs, Hp, ⟨H0, H1, H2, H3⟩, HX⟩
  isplitl [Hs H2 H3 HX]
  · iapply (enter (part m) c _)
    isplitl [HX]; · iexact HX
    isplitl [Hs]; · iexact Hs
    isplitl [H2]; · iexact H2
    iexact H3
  isplitl [H0 H1]; · isplitl [H0] <;> iassumption
  iexact Hp

theorem call_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c) ∗ Pipeline.ownSems0 osem c ∗ semVal (barCell c) 0) := by
  rw [show (pdats m 0 c).Φ (Fin.last _) = afterwards m c from rfl, bufs_eq, V₂_arg0, V₂_arg1, V₂_v1, V₂_v2]
  unfold afterwards beside
  iintro ⟨Hl, ⟨H0, H1⟩, Hp⟩
  ihave Hl := (exit (part m) c) $$ Hl
  icases Hl with ⟨Hs, ⟨H2, H3⟩, Ho, Hb⟩
  isplitl [Hs]; · iexact Hs
  isplitl [Hp]; · iexact Hp
  isplitl [H0 H1 H2 H3]
  · isplitl [H0]; · iexact H0
    isplitl [H1]; · iexact H1
    isplitl [H2] <;> iassumption
  isplitl [Ho] <;> iassumption

set_option backward.isDefEq.respectTransparency.types false in
/-- The pallas call. -/
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem own_facts
    bufs bufs (Finset.Subset.refl _) kitP rfl (fun c => (body_ob m c).loose)
    (fun _ => 0) owed₀ (fun c => (owed_zero m c).trans (zero_add _).symm) (owed_last m) (fun _ => rfl) (fun _ w => w.elim0)
    (V₁ m) (V₂ m) (fun _ b hb => absurd hb (by rw [Finset.sdiff_self]; exact Finset.notMem_empty b))
    (start (part m)) (fun c => semVal (barCell c) 0) (opened (part m)) (fun c => semVal (barCell c) 0) (open_all (part m)) (call_in m) (call_out m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ start (part m) c ∗ ∃ Wd, owes (c : Thread nD τ) (0 + owed₀ c) Wd)
  rw [held_none, zero_add]
  unfold R
  iintro ⟨Hh, ⟨HS, Hp⟩, HO⟩
  isplitr; · iempintro
  isplitl [Hp]; · iexact Hp
  isplitl [Hh]
  · isplitl [Hh]; · iexact Hh
    iempintro
  isplitl [HS]; · iexact HS
  iexact HO

theorem reg_post (c : Dev nD) : (reg m).post c
    ⊢ iprop(StableHlo.held (c : Thread nD τ) bufs (V₂ m c) ∗ (semVal (barCell c) 0 ∗ ∃ W, owes (c : Thread nD τ) (0 : CellTallies nD τ sig ℕ) W)) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ semVal (barCell c) 0 ∗ ∃ Wd, owes (c : Thread nD τ) (0 : CellTallies nD τ sig ℕ) Wd) ⊢ _
  rw [held_none]
  iintro ⟨-, -, ⟨Hh, -⟩, Hb, HO⟩
  isplitl [Hh]; · iexact Hh
  isplitl [Hb]; · iexact Hb
  iexact HO

/-- The program is the two segments in order. -/
def segs : List (Pipeline.Seg (pcfgs (F := F)) adm (pdats m) 0 defs₀ 𝒱₀ L lv) := [.host (seg0 m), .region (reg m)]

theorem main_eq (c : Dev nD) : main (F := F) c = Pipeline.Seg.run (segs m) := main_segs adm (pdats m) 0 𝒱₀ L lv (seg0 m) (reg m) rfl c

end Cert.AllReduce

end
-- ==== Proof.Launch.lean ====
/-
  The launch: every cell's invariant set up, each duty's token dealt to the device that pays it, each unit owed to the device
  that waits for it; then the whole run.
-/
module

public import proofs.«01_k».proof.Proof.Call

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig ℕ (Elt F) ℕ UU ℕ

/-! ## The tokens of all duties -/

theorem slot_div_inj {j k : ℕ} (hs : slotOf j = slotOf k) (hd : j / 2 = k / 2) : j = k := by
  have h (n : ℕ) : (slotOf n).toNat = n % 2 := by
    unfold slotOf
    rcases Nat.mod_two_eq_zero_or_one n with h | h <;> rw [h] <;> rfl
  have := congrArg Bool.toNat hs
  rw [h, h] at this
  omega

/-- The duties: per device two to its barrier, and per direction, kind of cell and step one. -/
abbrev TokIx : Type := Dev nD × (Bool ⊕ (Bool × Fin 3 × Fin 62))
def tokOf : TokIx → GSem nD τ sig × ℕ × Bool
  | (c, .inl d) => (barCell c, 0, d)
  | (c, .inr (d, k, j)) => (scCell (c, d, slotOf j.val, k), j.val / 2, false)

theorem scSem_ne_bar : ∀ (d s : Bool) (k : Fin 3), scSem d s k ≠ .reg barrier0 := by decide

theorem tokOf_inj : Function.Injective tokOf := by
  rintro ⟨c, x⟩ ⟨c', x'⟩ h
  have hc : c = c' := by
    cases x <;> cases x' <;> exact congrArg (fun t : GSem nD τ sig × ℕ × Bool => t.1.1.1) h
  have hsem := congrArg (fun t : GSem nD τ sig × ℕ × Bool => t.1.2) h
  have hr := congrArg (fun t : GSem nD τ sig × ℕ × Bool => t.2.1) h
  have hb := congrArg (fun t : GSem nD τ sig × ℕ × Bool => t.2.2) h
  subst hc
  rcases x with d | ⟨d, k, j⟩ <;> rcases x' with d' | ⟨d', k', j'⟩
  · rw [show d = d' from hb]
  · exact absurd hsem.symm (scSem_ne_bar _ _ _)
  · exact absurd hsem (scSem_ne_bar _ _ _)
  · obtain ⟨h1, h2, h3⟩ := scSem_inj _ _ _ _ _ _ hsem
    rw [show d = d' from h1, show k = k' from h3, Fin.ext (slot_div_inj h2 hr)]

def toks : Finset (GSem nD τ sig × ℕ × Bool) := Finset.univ.map ⟨tokOf, tokOf_inj⟩

/-- The steps, counted as numbers. -/
theorem bs_steps (Φ : ℕ → sProp 𝕄) : bigSep (Finset.univ : Finset (Fin 62)) (fun j => Φ j.val) = bigSep (Finset.Ico 0 62) Φ := by
  rw [show Finset.Ico 0 62 = (Finset.univ : Finset (Fin 62)).map Fin.valEmbedding from by decide, BI.bigSep_map]
  rfl

/-- A device's tokens at one kind of cell, for all steps. -/
def tokRow (d : Bool) (k : Fin 3) (c : Dev nD) : sProp 𝕄 :=
  bigSep (Finset.Ico 0 62) fun j => dutyTok ER (scCell (c, d, slotOf j, k)) (j / 2) false

theorem toks_eq : bigSep toks (fun x => (dutyTok ER x.1 x.2.1 x.2.2 : sProp 𝕄))
    = bigSep Finset.univ fun c : Dev nD => iprop((dutyTok ER (barCell c) 0 false ∗ dutyTok ER (barCell c) 0 true)
      ∗ (tokRow false 0 c ∗ tokRow false 1 c ∗ tokRow false 2 c) ∗ (tokRow true 0 c ∗ tokRow true 1 c ∗ tokRow true 2 c)) := by
  unfold toks
  rw [BI.bigSep_map, bs_prod]
  refine BI.bigSep_congr fun c _ => ?_
  rw [BI.bigSep_univ_sum, bs_bool, bs_prod, bs_bool, bs_prod, bs_prod, bs_three, bs_three]
  unfold tokRow
  simp only [← bs_steps]
  rfl

/-- The neighbours in a direction, each way. -/
def ringTo (d : Bool) : Dev nD ≃ Dev nD := ⟨toDev d, fromDev d, from_to d, to_from d⟩

/-- A direction's tokens where they are used: the device's own send cells, the receive cells it sends to, the credit cells
    and the barrier of the device it receives from. -/
def dealt (d : Bool) (c : Dev nD) : sProp 𝕄 :=
  iprop(dutyTok ER (barCell (fromDev d c)) 0 d ∗ tokRow d 0 c ∗ tokRow d 1 (toDev d c) ∗ tokRow d 2 (fromDev d c))

theorem toks_deal :
    bigSep toks (fun x => (dutyTok ER x.1 x.2.1 x.2.2 : sProp 𝕄)) ⊢ bigSep Finset.univ fun c : Dev nD => iprop(dealt (F := F) false c ∗ dealt true c) := by
  have hb (d : Bool) : bigSep Finset.univ (fun c : Dev nD => (dutyTok ER (barCell c) 0 d : sProp 𝕄)) = bigSep Finset.univ (fun c : Dev nD => dutyTok ER (barCell (fromDev d c)) 0 d) :=
    BI.bigSep_univ_equiv (ringTo d).symm _
  have hr (d : Bool) : bigSep Finset.univ (fun c : Dev nD => (tokRow d 1 c : sProp 𝕄)) = bigSep Finset.univ (fun c : Dev nD => tokRow d 1 (toDev d c)) :=
    BI.bigSep_univ_equiv (ringTo d) _
  have hc (d : Bool) : bigSep Finset.univ (fun c : Dev nD => (tokRow d 2 c : sProp 𝕄)) = bigSep Finset.univ (fun c : Dev nD => tokRow d 2 (fromDev d c)) :=
    BI.bigSep_univ_equiv (ringTo d).symm _
  rw [toks_eq]
  unfold dealt
  simp only [BI.bigSep_sep']
  rw [hb, hb, hr, hr, hc, hc]
  iintro ⟨⟨B1, B2⟩, ⟨S1, R1, C1⟩, ⟨S2, R2, C2⟩⟩
  isplitl [B1 S1 R1 C1]
  · isplitl [B1]; · iexact B1
    isplitl [S1]; · iexact S1
    isplitl [R1] <;> iassumption
  · isplitl [B2]; · iexact B2
    isplitl [S2]; · iexact S2
    isplitl [R2] <;> iassumption

/-! ## The units at launch -/

/-- A direction's units: for its receive cells the transfers, for its credit cells the neighbour's. -/
def units (d : Bool) (c : Dev nD) : sProp 𝕄 :=
  iprop(bigSep (Finset.Ico 0 62) (fun j => cred (tallyAt (recvCell d (slotOf j) c) j N))
    ∗ bigSep (Finset.Ico 2 62) (fun j => cred (tallyAt (credCell d (slotOf j) c) (j - 2) 1)))

theorem unit_recv (d : Bool) (j : ℕ) (c : Dev nD) :
    (launchCred (fun e => dueRecv d e j) c : sProp 𝕄) ⊢ cred (tallyAt (recvCell d (slotOf j) c) j N) :=
  launchCred_tallyAt _ (toDev d) (fromDev d) (to_from d) (from_to d) j N c
theorem unit_cred (d : Bool) (j : ℕ) (hj : j < 60) (c : Dev nD) :
    (launchCred (fun e => dueCred d e j) c : sProp 𝕄) ⊢ cred (tallyAt (credCell d (slotOf j) c) j 1) := by
  rw [show (fun e => dueCred d e j) = fun e => tallyAt (credCell d (slotOf j) (fromDev d e)) j 1 from funext fun e => if_pos hj]
  exact launchCred_tallyAt _ (fromDev d) (toDev d) (from_to d) (to_from d) j 1 c
theorem unit_bar (d : Bool) (c : Dev nD) :
    (launchCred (fun e => tallyAt (barCell (toDev d e)) 0 1) c : sProp 𝕄) ⊢ cred (tallyAt (barCell c) 0 1) :=
  launchCred_tallyAt _ (toDev d) (fromDev d) (to_from d) (from_to d) 0 1 c

theorem slotOf_two (j : ℕ) : slotOf (j + 2) = slotOf j := by unfold slotOf; rw [Nat.add_mod_right]

theorem units_cred (d : Bool) (c : Dev nD) :
    bigSep (Finset.Ico 0 62) (fun j => (launchCred (fun e => dueCred d e j) c : sProp 𝕄))
      ⊢ bigSep (Finset.Ico 2 62) (fun j => cred (tallyAt (credCell d (slotOf j) c) (j - 2) 1)) := by
  rw [show Finset.Ico 2 62 = (Finset.Ico 0 60).map (addRightEmbedding 2) from by decide, BI.bigSep_map]
  refine (BI.bigSep_subset (Finset.Ico_subset_Ico_right (by decide : 60 ≤ 62))).trans (BI.bigSep_mono fun j hj => ?_)
  rw [show addRightEmbedding 2 j = j + 2 from rfl, slotOf_two, Nat.add_sub_cancel]
  exact unit_cred d j (Finset.mem_Ico.mp hj).2 c

theorem units_recv (d : Bool) (c : Dev nD) :
    bigSep (Finset.Ico 0 62) (fun j => (launchCred (fun e => dueRecv d e j) c : sProp 𝕄))
      ⊢ bigSep (Finset.Ico 0 62) (fun j => cred (tallyAt (recvCell d (slotOf j) c) j N)) := BI.bigSep_mono fun j _ => unit_recv d j c

/-- What a device is owed at launch. -/
theorem units_all (c : Dev nD) : (launchCred owed₀ c : sProp 𝕄) ⊢ iprop(cred (tallyAt (barCell c) 0 2) ∗ units false c ∗ units true c) := by
  rw [show (owed₀ : Dev nD → CellTallies nD τ sig ℕ) = fun e => ((∑ j ∈ Finset.Ico 0 62, (((dueCred true e j + dueCred false e j) + dueRecv true e j) + dueRecv false e j))
      + tallyAt (barCell (toDev false e)) 0 1) + tallyAt (barCell (toDev true e)) 0 1 from rfl,
    launchCred_add, launchCred_add, launchCred_sum (Finset.Ico 0 62) (fun j e => ((dueCred true e j + dueCred false e j) + dueRecv true e j) + dueRecv false e j)]
  simp only [launchCred_add, BI.bigSep_sep']
  iintro ⟨⟨⟨⟨⟨Ct, Cf⟩, Rt⟩, Rf⟩, B1⟩, B2⟩
  isplitl [B1 B2]
  · rw [show (tallyAt (barCell c) 0 2 : CellTallies nD τ sig ℕ) = tallyAt (barCell c) 0 1 + tallyAt (barCell c) 0 1 from (tallyAt_add (barCell c) 0 1 1).symm]
    iapply (cred_add _ _).2
    isplitl [B1]
    · iapply (unit_bar false c) $$ B1
    · iapply (unit_bar true c) $$ B2
  unfold units
  isplitl [Cf Rf]
  · isplitl [Rf]
    · iapply (units_recv false c) $$ Rf
    · iapply (units_cred false c) $$ Cf
  · isplitl [Rt]
    · iapply (units_recv true c) $$ Rt
    · iapply (units_cred true c) $$ Ct

theorem row_send (d : Bool) (c : Dev nD) : (tokRow d 0 c : sProp 𝕄) = bigSep (Finset.Ico 0 62) fun j => dutyTok ER (sendCell d (slotOf j) c) (j / 2) false := rfl
theorem row_recv (d : Bool) (c : Dev nD) : (tokRow d 1 c : sProp 𝕄) = bigSep (Finset.Ico 0 62) fun j => dutyTok ER (recvCell d (slotOf j) c) (j / 2) false := rfl
theorem credit_intro (d : Bool) (c : Dev nD) (j : ℕ) : (dutyTok ER (credCell d (slotOf j) (fromDev d c)) (j / 2) false : sProp 𝕄) ⊢ creditTok d c j := by
  unfold creditTok
  split
  · exact Entails.refl _
  · iintro -; iempintro
theorem row_cred (d : Bool) (c : Dev nD) : (tokRow d 2 (fromDev d c) : sProp 𝕄) ⊢ bigSep (Finset.Ico 0 62) (creditTok d c) :=
  BI.bigSep_mono fun j _ => credit_intro d c j

/-- A direction's dues from its tokens and units. -/
theorem dues_intro (d : Bool) (c : Dev nD) :
    iprop(dealt d c ∗ units d c ∗ reached ER (barCell (fromDev d c)) 0) ⊢ (dues d c : sProp 𝕄) := by
  unfold dealt units dues stepToks
  rw [row_send, row_recv]
  simp only [BI.bigSep_sep']
  iintro ⟨⟨HB, HS, HR, HC⟩, ⟨UR, UC⟩, Hr⟩
  isplitl [HS HR HC UR]
  · isplitl [HS]; · iexact HS
    isplitl [HR]; · iexact HR
    isplitl [UR]; · iexact UR
    iapply (row_cred d c) $$ HC
  isplitl [UC]; · iexact UC
  isplitl [HB] <;> iassumption

/-! ## Every cell set up -/

theorem cells_disjoint : Disjoint (barCells : Finset (GSem nD τ sig)) scCells := by
  rw [Finset.disjoint_left]
  intro g h₁ h₂
  obtain ⟨c, -, rfl⟩ := Finset.mem_map.mp h₁
  obtain ⟨i, -, h⟩ := Finset.mem_map.mp h₂
  exact scSem_ne_bar i.2.1 i.2.2.1 i.2.2.2 (congrArg (fun g : GSem nD τ sig => g.2) h)

/-- The element the run starts from: the staging cells' part, of which there is none, and the protocol's. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- The protocol's whole part waits on one device until it is dealt. -/
def parked (c : Dev nD) : sProp 𝕄 := if c = 0 then BI.own (ER (launchOf barCells scCells toks)) else iprop(emp)
theorem parked_eq : bigSep Finset.univ (parked (F := F)) = BI.own (ER (launchOf barCells scCells toks)) := by
  rw [BI.bigSep_univ_at _ 0, BI.bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

variable (p : Dev nD → Arr F)

/-- What all devices may consult: all invariants, and that every barrier is open. -/
def known (K : GSem nD τ sig → ℕ) : sProp 𝕄 := iprop(invs p K ∗ bigSep barCells fun g => reached ER g 0)
instance known_persistent (K : GSem nD τ sig → ℕ) : BI.Persistent (known p K) := by unfold known; infer_instance

theorem known_bar (K : GSem nD τ sig → ℕ) (c : Dev nD) : known p K ⊢ reached ER (barCell c) 0 := by
  unfold known
  exact sep_elim_right.trans (BI.bigSep_elim (mem_barCells c))

/-- What is a device's own: its standing on its barrier, the rights to open its cells, its tokens. -/
def mine (c : Dev nD) : sProp 𝕄 :=
  iprop(atPos ER (barCell c) 0 ∅ 0 ∗ ((slotOpen false false c ∗ slotOpen false true c) ∗ (slotOpen true false c ∗ slotOpen true true c))
    ∗ (dealt false c ∗ dealt true c))

/-- A device's start from what is known, its own and its units. -/
theorem start_intro (K : GSem nD τ sig → ℕ) (c : Dev nD) :
    iprop(known p K ∗ mine c ∗ (cred (tallyAt (barCell c) 0 2) ∗ units false c ∗ units true c)) ⊢ (start p c : sProp 𝕄) := by
  unfold mine start posn
  iintro ⟨#HK, ⟨Hat, ⟨Of, Ot⟩, ⟨Df, Dt⟩⟩, ⟨Hb, Uf, Ut⟩⟩
  iexists K
  isplitr
  · unfold known
    icases HK with ⟨HI, -⟩; iexact HI
  isplitl [Hat]
  · isplitl [Hat]; · iexact Hat
    iapply (known_bar p K c) $$ HK
  isplitl [Hb]; · iexact Hb
  isplitl [Of Df Uf]
  · isplitl [Of]; · iexact Of
    iapply (dues_intro false c)
    isplitl [Df]; · iexact Df
    isplitl [Uf]; · iexact Uf
    iapply (known_bar p K (fromDev false c)) $$ HK
  · isplitl [Ot]; · iexact Ot
    iapply (dues_intro true c)
    isplitl [Dt]; · iexact Dt
    isplitl [Ut]; · iexact Ut
    iapply (known_bar p K (fromDev true c)) $$ HK

theorem opens_eq : bigSep scCells (fun g => (openTok ER g : sProp 𝕄))
    = bigSep Finset.univ (fun c : Dev nD => iprop((slotOpen false false c ∗ slotOpen false true c) ∗ (slotOpen true false c ∗ slotOpen true true c))) := by
  unfold scCells
  rw [BI.bigSep_map, bs_prod]
  refine BI.bigSep_congr fun c _ => ?_
  rw [bs_prod, bs_bool, bs_prod, bs_prod, bs_bool, bs_bool, bs_three, bs_three, bs_three, bs_three]
  rfl

/-! ## The run -/

variable (m : (ℓ : Loc nD τ sig) → Buf (Elt F) ℓ) (ρ : Dev nD → PrngReg)

/-- The thread state at the start, and what is kept of it at the end. -/
abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device starts with besides the protocol's tokens. -/
def rest (c : Dev nD) : sProp 𝕄 :=
  iprop(StableHlo.held (c : Thread nD τ) bufs (V₀ m c) ∗ (cred (tallyAt (barCell c) 0 2) ∗ units false c ∗ units true c)
    ∗ owes (c : Thread nD τ) (owed₀ c) ∅ ∗ ∃ r, prngReg c r)

theorem T₀_intro (K : GSem nD τ sig → ℕ) (c : Dev nD) : iprop(known (part m) K ∗ (mine c ∗ rest m c)) ⊢ T₀ m c := by
  unfold rest T₀ R
  iintro ⟨#HK, Hm, Hh, HU, HO, Hp⟩
  isplitl [Hh]; · iexact Hh
  isplitr [HO]
  · isplitr [Hp]
    · iapply (start_intro (part m) K c)
      isplitr; · iexact HK
      isplitl [Hm] <;> iassumption
    iexact Hp
  · iexists ∅; iexact HO

/-- A device's launch holdings, sorted. -/
theorem launch_sort (c : Dev nD) : iprop(unscopedBufs c (fun b => m ((c : Thread nD τ).loc b)) ∗ unscopedSems0 c
      ∗ owes (c : Thread nD τ) (owed₀ c) ∅ ∗ Pipeline.launchCred owed₀ c ∗ prngReg c (ρ c) ∗ parked c)
    ⊢ (iprop(rest m c ∗ (semVal (barCell c) 0 ∗ parked c)) : sProp 𝕄) := by
  rw [show unscopedBufs c (fun b => m ((c : Thread nD τ).loc b)) = StableHlo.held (c : Thread nD τ) bufs (V₀ m c) from unscopedBufs_held c (V₀ m c),
    unscopedSems0_eq]
  unfold rest
  iintro ⟨Hh, Hs, HO, Hcr, Hp, HG⟩
  ihave Hc := (units_all (F := F) c) $$ Hcr
  isplitl [Hh Hc HO Hp]
  · isplitl [Hh]; · iexact Hh
    isplitl [Hc]; · iexact Hc
    isplitl [HO]; · iexact HO
    iexists (ρ c); iexact Hp
  isplitl [Hs] <;> iassumption

theorem bars_in : bigSep Finset.univ (fun c : Dev nD => (semVal (barCell c) 0 : sProp 𝕄)) ⊢ bigSep barCells (fun g => (semVal g 0 : sProp 𝕄)) :=
  Entails.of_eq (BI.bigSep_map (s := Finset.univ) ⟨barCell, barCell_inj⟩ (Φ := fun g : GSem nD τ sig => (semVal g 0 : sProp 𝕄))).symm
theorem bars_out : bigSep barCells (fun g => (atPos ER g 0 ∅ 0 : sProp 𝕄)) ⊢ bigSep Finset.univ (fun c : Dev nD => (atPos ER (barCell c) 0 ∅ 0 : sProp 𝕄)) :=
  Entails.of_eq (BI.bigSep_map (s := Finset.univ) ⟨barCell, barCell_inj⟩ (Φ := fun g : GSem nD τ sig => (atPos ER g 0 ∅ 0 : sProp 𝕄)))

/-- All devices' launch holdings become their thread states. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c)) ∗ levAts L lv)
      ⊢ (|={Set.univ}=> bigSep Finset.univ (T₀ m) : sProp 𝕄) := by
  refine (sep_mono_left (BI.bigSep_mono fun c _ => launch_sort m ρ c)).trans ?_
  rw [BI.bigSep_sep', BI.bigSep_sep', parked_eq]
  iintro ⟨⟨HB, Hv, Hu⟩, -⟩
  imod (Rounds.fund_launch ER (rd (part m)) cells_disjoint (fun g _ h => h) toks) $$ [Hv Hu] with ⟨%K, -, #Hinv, #Hr, Hat, Hopen, Htok⟩
  · isplitl [Hv]
    · iapply bars_in $$ Hv
    · iexact Hu
  imodintro
  iapply (BI.bigSep_with_persistent (R := known (part m) K) (Φ := fun c => iprop(mine c ∗ rest m c)) fun c _ => T₀_intro m K c)
  isplitr
  · unfold known invs
    isplitr; · iexact Hinv
    iexact Hr
  iapply (Entails.of_eq (BI.bigSep_sep' _ _ _).symm)
  isplitr [HB]
  · unfold mine
    iapply (Entails.of_eq (BI.bigSep_sep' _ _ _).symm); isplitl [Hat]; · iapply bars_out $$ Hat
    iapply (Entails.of_eq (BI.bigSep_sep' _ _ _).symm); isplitl [Hopen]; · iapply (Entails.of_eq (opens_eq (F := F))) $$ Hopen
    iapply (toks_deal (F := F)) $$ Htok
  · iexact HB

theorem unscoped_eq : ∀ sm : SemLoc sig, sm.isScoped .tc = false → sm = .reg barrier0 := by decide

theorem ends_arg0 (c : Dev nD) : V₂ m c main_arg0 = m ((c : Thread nD τ).loc main_arg0) := (V₂_arg0 m c).trans (V_main_arg0 m c)
theorem ends_arg1 (c : Dev nD) : V₂ m c main_arg1 = m ((c : Thread nD τ).loc main_arg1) := (V₂_arg1 m c).trans (V_main_arg1 m c)

set_option backward.isDefEq.respectTransparency.types false in
/-- From any memory with all counters at zero the program ends on all devices, with the arguments as they were, the result
    array of every device the sum of all devices' products taken in the ring's order, and all counters at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v2) = outF (part m)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := parked) (u₀ := u₀ (F := F))
    (hu₀ := by
      unfold u₀
      iintro Hu
      ihave H := (ownU_pair _ _) $$ Hu
      icases H with ⟨HP, HX⟩
      ihave HX := (own_pair_emb _ _ _) $$ HX
      icases HX with ⟨HX, -⟩
      imodintro
      isplitl [HP]; · iexact HP
      rw [parked_eq]; iexact HX)
    (T₀ := T₀ m) (Tₙ := Tₙ m)
    (hch := by
      refine ⟨fun c => .rfl, fun c => reg_pre m c, fun c => (reg_post m c).trans ?_⟩
      show iprop(StableHlo.held (c : Thread nD τ) bufs (V₂ m c)
          ∗ (semVal (barCell c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb0, HO⟩
      isplitr [HO]
      · isplitl [Hh] <;> iassumption
      · iexact HO)
    (hinit := init m ρ)
    (QY := fun c s => ((s.mem ((c : Thread nD τ).loc main_arg0) = V₂ m c main_arg0 ∧ s.mem ((c : Thread nD τ).loc main_arg1) = V₂ m c main_arg1)
        ∧ s.mem ((c : Thread nD τ).loc main_v2) = V₂ m c main_v2) ∧ s.sem (barCell c) = 0)
    (hfin := fun c s' => by
      dsimp only [Tₙ]; rw [bufs_eq]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨⟨Buf.eq_of_forall_mem_univ h0, Buf.eq_of_forall_mem_univ h1⟩, Buf.eq_of_forall_mem_univ h2⟩, by simpa using hb⟩
      iexact HSI)
    (hQ := fun s h hs => ⟨fun c => by
        obtain ⟨⟨⟨h0, h1⟩, h2⟩, -⟩ := h c
        exact ⟨⟨h0.trans (ends_arg0 m c), h1.trans (ends_arg1 m c)⟩, h2.trans (V₂_v2 m c)⟩,
      sem_eq_zero hs fun c sm hsm => by
        obtain rfl := unscoped_eq sm hsm
        exact (h c).2⟩)

end Cert.AllReduce

end
-- ==== Proof.Sum.lean ====
/-
  At the ideal values the result array is the product of the whole matrices: a chunk's total runs over every device once, and a
  device's own product is the slice of the contraction its block covers.
-/
module

public import proofs.«01_k».proof.Proof.Call
public import proofs.«01_k».proof.ReferenceIdeal
public import proofs.«01_k».proof.Proof.Gen.ReferenceIdeal
public import Idealize.ShloMosaic.Lib.StackMember
public import Idealize.ShloMosaic.Lib.Layout
public import Idealize.ShloMosaic.Lib.Pointwise.Sums
public import Idealize.ShloMosaic.Lib.StableHlo.Run

@[expose] public section

set_option maxRecDepth 20000

noncomputable section

namespace Cert.AllReduce

open Cert.KernelIdeal Cert.KernelIdeal.Gen
open Idealize.ShloMosaic Idealize.ShloMosaic.TcCoe
open Idealize.SL Idealize.SL.Sem

/-! ## The ring's sum -/

section Ring

variable (p : Dev nD → Arr Ideal)

/-- After `g` adding steps a device holds the sum of the same chunk over the `g + 1` devices up the stream. -/
theorem trav_eq_sum (d : Bool) (g : ℕ) (c : Dev nD) (hg : g ≤ 31) (x : S64x8192.Idx) :
    trav p d g c x = ∑ j ∈ Finset.range (g + 1), chunkOf d (src d g c) (p (src d j c)) x := by
  induction g generalizing c with
  | zero => rw [Finset.sum_range_one]; rfl
  | succ g ih =>
    rw [trav_add p d g c (by omega), Finset.sum_range_succ']
    refine Eq.trans ?_ (add_comm _ _)
    show chunkOf d (src d (g + 1) c) (p c) x + trav p d g (fromDev d c) x = _
    rw [ih (fromDev d c) (by omega)]
    rfl

/-- Thirty-two places up the stream visit every device once. -/
theorem sum_src (d : Bool) (c : Dev nD) (f : Dev nD → EReal) :
    ∑ j ∈ Finset.range 32, f (src d j c) = ∑ k : Dev nD, f k :=
  Finset.sum_bij (fun j _ => src d j c) (fun _ _ => Finset.mem_univ _)
    (fun a ha b hb h => src_inj d c (Finset.mem_range.mp ha) (Finset.mem_range.mp hb) h)
    (fun k _ => let ⟨n, hn, h⟩ := src_surj d c k; ⟨n, Finset.mem_range.mpr hn, h⟩)
    (fun _ _ => rfl)

theorem total_eq_sum (d : Bool) (k : Dev nD) (x : S64x8192.Idx) : total p d k x = ∑ c : Dev nD, chunkOf d k (p c) x := by
  unfold total
  rw [trav_eq_sum p d 31 _ (le_refl _), src_add, show src d (31 + 1) k = k from src_mod d 0 k]
  exact sum_src d (src d 1 k) fun c => chunkOf d k (p c) x

/-- The result is the sum of the devices' arrays. -/
theorem outF_eq_sum (i : S4096x8192.Idx) : outF p i = ∑ c : Dev nD, p c i :=
  (eq_outF p ((i 0).val / 64 % 2 == 1) (fun i => ∑ c : Dev nD, p c i) (fun k => funext fun x => (total_eq_sum p _ k x).symm) i
    (Finset.mem_filter.mpr ⟨Finset.mem_univ _, rfl⟩)).symm

end Ring

/-! ## The contraction -/

/-- A device's own product. -/
theorem part_eq {F : FTy → Type} [FloatOps F] (m : (ℓ : Loc nD τ sig) → Buf (Elt F) ℓ) (c : Dev nD) :
    part m c = Host.dotGeneral dot_S4096x128_S128x8192_S4096x8192_1_0_0_1_n_n none
      (m ((c : Thread nD τ).loc main_arg0)) (m ((c : Thread nD τ).loc main_arg1)) := by
  unfold part V₁ hostOps0
  rw [StableHlo.after_cons, StableHlo.after_nil, StableHlo.binary_result]

/-- The whole product is the sum of the products of the blocks. -/
theorem dot_blocks (A : FVec Ideal ⟨2, ![4096, 4096]⟩ .f32) (B : FVec Ideal ⟨2, ![4096, 8192]⟩ .f32) (i : S4096x8192.Idx) :
    Host.dotGeneral (F := Ideal) Cert.ReferenceIdeal.dot_S4096x4096_S4096x8192_S4096x8192_1_0_0_1_n_n none A B i
      = ∑ c : Dev nD, Host.dotGeneral (F := Ideal) dot_S4096x128_S128x8192_S4096x8192_1_0_0_1_n_n none
          (Layout.block ⟨2, ![4096, 128]⟩ ⟨2, ![4096, 4096]⟩ 1 32 c A) (Layout.block ⟨2, ![128, 8192]⟩ ⟨2, ![4096, 8192]⟩ 0 32 c B) i := by
  obtain ⟨a, b, rfl⟩ : ∃ (a : Fin 4096) (b : Fin 8192), i = ix2 a b := ⟨i 0, i 1, eq_ix2 i⟩
  refine (StackMember.dotGeneral_plain_apply (m := 4096) (n := 8192) (k := 4096) none A B a b).trans ?_
  rw [Fin.sum_univ_tiles 32 128 (by decide)]
  refine Finset.sum_congr rfl fun c _ => ?_
  refine Eq.trans ?_ (StackMember.dotGeneral_plain_apply (m := 4096) (n := 8192) (k := 128) none _ _ a b).symm
  refine Finset.sum_congr rfl fun t _ => ?_
  rw [Layout.block_apply, Layout.block_apply]
  congr 2
  · funext x
    match x with
    | 0 => rfl
    | 1 => rfl
  · funext x
    match x with
    | 0 => rfl
    | 1 => rfl

/-- So the kernel's result is the whole product, whenever the devices hold the blocks. -/
theorem out_eq_dot (m : (ℓ : Loc nD τ sig) → Buf (Elt Ideal) ℓ) (A : FVec Ideal ⟨2, ![4096, 4096]⟩ .f32) (B : FVec Ideal ⟨2, ![4096, 8192]⟩ .f32)
    (h : ∀ c : Dev nD, m ((c : Thread nD τ).loc main_arg0) = Layout.block ⟨2, ![4096, 128]⟩ ⟨2, ![4096, 4096]⟩ 1 32 c A
      ∧ m ((c : Thread nD τ).loc main_arg1) = Layout.block ⟨2, ![128, 8192]⟩ ⟨2, ![4096, 8192]⟩ 0 32 c B) :
    outF (part m) = Host.dotGeneral (F := Ideal) Cert.ReferenceIdeal.dot_S4096x4096_S4096x8192_S4096x8192_1_0_0_1_n_n none A B := by
  funext i
  rw [outF_eq_sum, dot_blocks]
  refine Finset.sum_congr rfl fun c _ => ?_
  rw [part_eq, (h c).1, (h c).2]

end Cert.AllReduce
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Sum
public import Idealize.ShloMosaic.Adequacy
public import Idealize.ShloMosaic.Init

@[expose] public section

noncomputable section

namespace Cert.Proof

open Idealize.ShloMosaic Idealize.SL.Sem Cert.Kernel

/-- The kernel's frame at the bits: the run over any values, read there. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- And at the ideal values. -/
theorem frame_kernelIdeal : Cert.quiescent_KernelIdeal := fun m ρ _ =>
  (θ_run Cert.KernelIdeal.defs _ _).mono (fun _ h => ⟨fun c => (h.1 c).1, h.2⟩) (Cert.AllReduce.run_main (F := Ideal) m ρ)

/-- The reference writes neither argument, and it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- Both end with the whole product. -/
theorem algebraic : Cert.algebraic_KernelIdeal_ReferenceIdeal := fun m ρ m' ρ' _ h =>
  ⟨_, (θ_run Cert.KernelIdeal.defs _ _).mono
      (fun _ h' c => ⟨(h'.1 c).2.trans (Cert.AllReduce.out_eq_dot m _ _ h), (h'.1 c).1⟩) (Cert.AllReduce.run_main (F := Ideal) m ρ),
    (θ_run Cert.ReferenceIdeal.defs _ _).mono (fun _ h' => h' 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
